-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Reference (m : (ℓ : Loc Cert.Reference.nD Cert.Reference.τ Cert.Reference.sig) → Buf (Elt Bits) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5)
      ∧ r.2.mem ((c.tc : Thread Cert.Reference.nD Cert.Reference.τ).loc Cert.Reference.main_arg6) = m ((c.tc : Thread Cert.Reference.nD Cert.Reference.τ).loc Cert.Reference.main_arg6)
      ∧ r.2.mem ((c.tc : Thread Cert.Reference.nD Cert.Reference.τ).loc Cert.Reference.main_arg7) = m ((c.tc : Thread Cert.Reference.nD Cert.Reference.τ).loc Cert.Reference.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def preserves_Reference_ReferenceIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v216)) (v1 : (c : Dev Cert.KernelIdeal.nD) → Buf (Elt Ideal) ((c.tc : Thread Cert.KernelIdeal.nD Cert.KernelIdeal.τ).loc Cert.KernelIdeal.main_v213_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v216) = v0 c
          ∧ r.2.mem ((c.tc : Thread Cert.KernelIdeal.nD Cert.KernelIdeal.τ).loc Cert.KernelIdeal.main_v213_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReference : Cert.Reference.Facts) (hReferenceIdeal : Cert.ReferenceIdeal.Facts),
    quiescent_Kernel (hKernel := hKernel)
    ∧ quiescent_KernelIdeal (hKernelIdeal := hKernelIdeal)
    ∧ quiescent_Reference (hReference := hReference)
    ∧ quiescent_ReferenceIdeal (hReferenceIdeal := hReferenceIdeal)
    ∧ preserves_Kernel_KernelIdeal
    ∧ preserves_Reference_ReferenceIdeal
    ∧ algebraic_KernelIdeal_ReferenceIdeal (hKernelIdeal := hKernelIdeal) (hReferenceIdeal := hReferenceIdeal)
-- ==== Kernel.lean ====
abbrev S4x3x64x224x224 : Shape := ⟨5, ![4, 3, 64, 224, 224]⟩
abbrev S4x3 : Shape := ⟨2, ![4, 3]⟩
abbrev S4 : Shape := ⟨1, ![4]⟩
abbrev S8x1 : Shape := ⟨2, ![8, 1]⟩
abbrev S8 : Shape := ⟨1, ![8]⟩
abbrev S1x8 : Shape := ⟨2, ![1, 8]⟩
abbrev S1 : Shape := ⟨1, ![1]⟩
abbrev S4x3x64x392x128 : Shape := ⟨5, ![4, 3, 64, 392, 128]⟩
abbrev S9x128 : Shape := ⟨2, ![9, 128]⟩
abbrev S1x3x1x392x128 : Shape := ⟨5, ![1, 3, 1, 392, 128]⟩
abbrev S9x8x128 : Shape := ⟨3, ![9, 8, 128]⟩
abbrev S3x392x128 : Shape := ⟨3, ![3, 392, 128]⟩
abbrev S1x392x128 : Shape := ⟨3, ![1, 392, 128]⟩
abbrev S392x128 : Shape := ⟨2, ![392, 128]⟩
abbrev S49x8x128 : Shape := ⟨3, ![49, 8, 128]⟩
abbrev S1x8x128 : Shape := ⟨3, ![1, 8, 128]⟩
abbrev S8x128 : Shape := ⟨2, ![8, 128]⟩
abbrev S9 : Shape := ⟨1, ![9]⟩
abbrev S9x1 : Shape := ⟨2, ![9, 1]⟩
abbrev S_ : Shape := ⟨0, ![]⟩
abbrev S1x1 : Shape := ⟨2, ![1, 1]⟩
abbrev S12 : Shape := ⟨1, ![12]⟩
abbrev S256x1x128 : Shape := ⟨3, ![256, 1, 128]⟩
abbrev S1x1x128 : Shape := ⟨3, ![1, 1, 128]⟩
abbrev S1x1x1 : Shape := ⟨3, ![1, 1, 1]⟩
abbrev S128 : Shape := ⟨1, ![128]⟩
abbrev S256x1x1 : Shape := ⟨3, ![256, 1, 1]⟩
abbrev S256 : Shape := ⟨1, ![256]⟩
abbrev S4x64 : Shape := ⟨2, ![4, 64]⟩
abbrev S4x16 : Shape := ⟨2, ![4, 16]⟩
abbrev S4x1x64 : Shape := ⟨3, ![4, 1, 64]⟩
abbrev S4x64x1 : Shape := ⟨3, ![4, 64, 1]⟩
abbrev S4x64x64 : Shape := ⟨3, ![4, 64, 64]⟩
abbrev S4x64x8 : Shape := ⟨3, ![4, 64, 8]⟩
abbrev S4x8 : Shape := ⟨2, ![4, 8]⟩
abbrev S4x4x16x392x128 : Shape := ⟨5, ![4, 4, 16, 392, 128]⟩
abbrev S1x4x1x392x128 : Shape := ⟨5, ![1, 4, 1, 392, 128]⟩
abbrev S1x1x1x392x128 : Shape := ⟨5, ![1, 1, 1, 392, 128]⟩
abbrev S4x4x16x224x224 : Shape := ⟨5, ![4, 4, 16, 224, 224]⟩

abbrev nBuf : Space → Nat
  | .hbm => 238
  | .vmem => 16
  | .smem => 16
  | _ => 0

abbrev hbmTy0_0 (i : Nat) : BufTy := match i % 128 with
  | 0 => ⟨S4x3x64x224x224, .f32⟩
  | 1 => ⟨S4x3, .f32⟩
  | 2 => ⟨S4, .f32⟩
  | 3 => ⟨S4, .f32⟩
  | 4 => ⟨S8x1, .f32⟩
  | 5 => ⟨S8, .f32⟩
  | 6 => ⟨S1x8, .f32⟩
  | 7 => ⟨S1, .f32⟩
  | 8 => ⟨S4x3x64x392x128, .f32⟩
  | 9 => ⟨S4x3, .bf16⟩
  | 10 => ⟨S4x3, .f32⟩
  | 11 => ⟨S9x128, .f32⟩
  | 12 => ⟨S9x1, .f32⟩
  | 13 => ⟨S9, .f32⟩
  | 14 => ⟨S_, .f32⟩
  | 15 => ⟨S9, .f32⟩
  | 16 => ⟨S9, .f32⟩
  | 17 => ⟨S1, .f32⟩
  | 18 => ⟨S_, .f32⟩
  | 19 => ⟨S1, .f32⟩
  | 20 => ⟨S_, .f32⟩
  | 21 => ⟨S1, .f32⟩
  | 22 => ⟨S_, .f32⟩
  | 23 => ⟨S1, .f32⟩
  | 24 => ⟨S_, .f32⟩
  | 25 => ⟨S1, .f32⟩
  | 26 => ⟨S_, .f32⟩
  | 27 => ⟨S1, .f32⟩
  | 28 => ⟨S_, .f32⟩
  | 29 => ⟨S1, .f32⟩
  | 30 => ⟨S_, .f32⟩
  | 31 => ⟨S1, .f32⟩
  | 32 => ⟨S_, .f32⟩
  | 33 => ⟨S1, .f32⟩
  | 34 => ⟨S_, .f32⟩
  | 35 => ⟨S1, .f32⟩
  | 36 => ⟨S_, .f32⟩
  | 37 => ⟨S1, .f32⟩
  | 38 => ⟨S_, .f32⟩
  | 39 => ⟨S1, .f32⟩
  | 40 => ⟨S_, .f32⟩
  | 41 => ⟨S1x1, .f32⟩
  | 42 => ⟨S_, .f32⟩
  | 43 => ⟨S1x1, .f32⟩
  | 44 => ⟨S_, .f32⟩
  | 45 => ⟨S1x1, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S1x1, .f32⟩
  | 84 => ⟨S_, .f32⟩
  | 85 => ⟨S1x1, .f32⟩
  | 86 => ⟨S_, .f32⟩
  | 87 => ⟨S1x1, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S1x1, .f32⟩
  | 126 => ⟨S_, .f32⟩
  | 127 => ⟨S1x1, .f32⟩
  | _ => ⟨S4x3x64x224x224, .f32⟩

abbrev hbmTy0_1 (i : Nat) : BufTy := match i % 128 with
  | 0 => ⟨S_, .f32⟩
  | 1 => ⟨S1x1, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S1x1, .f32⟩
  | 40 => ⟨S_, .f32⟩
  | 41 => ⟨S1x1, .f32⟩
  | 42 => ⟨S_, .f32⟩
  | 43 => ⟨S1x1, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S1, .f32⟩
  | 82 => ⟨S1, .f32⟩
  | 83 => ⟨S1, .f32⟩
  | 84 => ⟨S1, .f32⟩
  | 85 => ⟨S4, .f32⟩
  | 86 => ⟨S1, .f32⟩
  | 87 => ⟨S1, .f32⟩
  | 88 => ⟨S1, .f32⟩
  | 89 => ⟨S1, .f32⟩
  | 90 => ⟨S4, .f32⟩
  | 91 => ⟨S12, .f32⟩
  | 92 => ⟨S256x1x128, .f32⟩
  | 93 => ⟨S256x1x1, .f32⟩
  | 94 => ⟨S256, .f32⟩
  | 95 => ⟨S4x64, .f32⟩
  | 96 => ⟨S8, .f32⟩
  | 97 => ⟨S8, .f32⟩
  | 98 => ⟨S4x64, .f32⟩
  | 99 => ⟨S4x16, .i32⟩
  | 100 => ⟨S4x16, .f32⟩
  | 101 => ⟨S_, .i32⟩
  | 102 => ⟨S_, .i32⟩
  | 103 => ⟨S_, .i32⟩
  | 104 => ⟨S4x16, .i32⟩
  | 105 => ⟨S4x16, .i32⟩
  | 106 => ⟨S_, .i32⟩
  | 107 => ⟨S4x16, .i32⟩
  | 108 => ⟨S4x4x16x392x128, .f32⟩
  | 109 => ⟨S4x4x16x224x224, .f32⟩
  | _ => ⟨S4x3x64x224x224, .f32⟩

abbrev hbmTy (i : Nat) : BufTy := match i / 128 with
  | 0 => hbmTy0_0 i
  | 1 => hbmTy0_1 i
  | _ => ⟨S4x3x64x224x224, .f32⟩

abbrev bufTy : (tb : Table) → Fin (tcTables nBuf tb) → BufTy
  | .hbm, ⟨i, _⟩ => hbmTy i
  | .local _ .vmem, ⟨0, _⟩ => ⟨S1x3x1x392x128, .f32⟩
  | .local _ .vmem, ⟨1, _⟩ => ⟨S1x3x1x392x128, .f32⟩
  | .local _ .vmem, ⟨2, _⟩ => ⟨S9x128, .f32⟩
  | .local _ .vmem, ⟨3, _⟩ => ⟨S9x8x128, .f32⟩
  | .local _ .vmem, ⟨4, _⟩ => ⟨S1x3x1x392x128, .f32⟩
  | .local _ .vmem, ⟨5, _⟩ => ⟨S1x3x1x392x128, .f32⟩
  | .local _ .vmem, ⟨6, _⟩ => ⟨S1x1x128, .f32⟩
  | .local _ .vmem, ⟨7, _⟩ => ⟨S1x1x128, .f32⟩
  | .local _ .vmem, ⟨8, _⟩ => ⟨S4x64, .f32⟩
  | .local _ .vmem, ⟨9, _⟩ => ⟨S4x64, .f32⟩
  | .local _ .vmem, ⟨10, _⟩ => ⟨S4x16, .i32⟩
  | .local _ .vmem, ⟨11, _⟩ => ⟨S4x16, .f32⟩
  | .local _ .vmem, ⟨12, _⟩ => ⟨S1x3x1x392x128, .f32⟩
  | .local _ .vmem, ⟨13, _⟩ => ⟨S1x3x1x392x128, .f32⟩
  | .local _ .vmem, ⟨14, _⟩ => ⟨S1x4x1x392x128, .f32⟩
  | .local _ .vmem, ⟨15, _⟩ => ⟨S1x4x1x392x128, .f32⟩
  | .local _ .smem, ⟨0, _⟩ => ⟨S12, .f32⟩
  | .local _ .smem, ⟨1, _⟩ => ⟨S4, .f32⟩
  | .local _ .smem, ⟨2, _⟩ => ⟨S4, .f32⟩
  | .local _ .smem, ⟨3, _⟩ => ⟨S4, .f32⟩
  | .local _ .smem, ⟨4, _⟩ => ⟨S4, .f32⟩
  | .local _ .smem, ⟨5, _⟩ => ⟨S8, .f32⟩
  | .local _ .smem, ⟨6, _⟩ => ⟨S8, .f32⟩
  | .local _ .smem, ⟨7, _⟩ => ⟨S8, .f32⟩
  | .local _ .smem, ⟨8, _⟩ => ⟨S1, .f32⟩
  | .local _ .smem, ⟨9, _⟩ => ⟨S4x16, .i32⟩
  | .local _ .smem, ⟨10, _⟩ => ⟨S4x16, .f32⟩
  | .local _ .smem, ⟨11, _⟩ => ⟨S12, .f32⟩
  | .local _ .smem, ⟨12, _⟩ => ⟨S4, .f32⟩
  | .local _ .smem, ⟨13, _⟩ => ⟨S4, .f32⟩
  | .local _ .smem, ⟨14, _⟩ => ⟨S4, .f32⟩
  | .local _ .smem, ⟨15, _⟩ => ⟨S4, .f32⟩
  | _, _ => ⟨S4x3x64x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | .smem, ⟨6, _⟩ => true
  | .smem, ⟨7, _⟩ => true
  | .smem, ⟨8, _⟩ => true
  | .smem, ⟨10, _⟩ => true
  | .smem, ⟨11, _⟩ => true
  | .smem, ⟨12, _⟩ => true
  | .smem, ⟨13, _⟩ => true
  | .smem, ⟨14, _⟩ => true
  | .smem, ⟨15, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_cst_0 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_cst_1 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_v143 : Ref sig .tc := ⟨.hbm, 154, rfl⟩
abbrev main_v144 : Ref sig .tc := ⟨.hbm, 155, rfl⟩
abbrev main_v145 : Ref sig .tc := ⟨.hbm, 156, rfl⟩
abbrev main_v146 : Ref sig .tc := ⟨.hbm, 157, rfl⟩
abbrev main_v147 : Ref sig .tc := ⟨.hbm, 158, rfl⟩
abbrev main_v148 : Ref sig .tc := ⟨.hbm, 159, rfl⟩
abbrev main_v149 : Ref sig .tc := ⟨.hbm, 160, rfl⟩
abbrev main_v150 : Ref sig .tc := ⟨.hbm, 161, rfl⟩
abbrev main_v151 : Ref sig .tc := ⟨.hbm, 162, rfl⟩
abbrev main_v152 : Ref sig .tc := ⟨.hbm, 163, rfl⟩
abbrev main_cst_2 : Ref sig .tc := ⟨.hbm, 164, rfl⟩
abbrev main_v153 : Ref sig .tc := ⟨.hbm, 165, rfl⟩
abbrev main_v154 : Ref sig .tc := ⟨.hbm, 166, rfl⟩
abbrev main_v155 : Ref sig .tc := ⟨.hbm, 167, rfl⟩
abbrev main_v156 : Ref sig .tc := ⟨.hbm, 168, rfl⟩
abbrev main_v157 : Ref sig .tc := ⟨.hbm, 169, rfl⟩
abbrev main_v158 : Ref sig .tc := ⟨.hbm, 170, rfl⟩
abbrev main_v159 : Ref sig .tc := ⟨.hbm, 171, rfl⟩
abbrev main_v160 : Ref sig .tc := ⟨.hbm, 172, rfl⟩
abbrev main_v161 : Ref sig .tc := ⟨.hbm, 173, rfl⟩
abbrev main_v162 : Ref sig .tc := ⟨.hbm, 174, rfl⟩
abbrev main_v163 : Ref sig .tc := ⟨.hbm, 175, rfl⟩
abbrev main_v164 : Ref sig .tc := ⟨.hbm, 176, rfl⟩
abbrev main_v165 : Ref sig .tc := ⟨.hbm, 177, rfl⟩
abbrev main_v166 : Ref sig .tc := ⟨.hbm, 178, rfl⟩
abbrev main_v167 : Ref sig .tc := ⟨.hbm, 179, rfl⟩
abbrev main_v168 : Ref sig .tc := ⟨.hbm, 180, rfl⟩
abbrev main_v169 : Ref sig .tc := ⟨.hbm, 181, rfl⟩
abbrev main_v170 : Ref sig .tc := ⟨.hbm, 182, rfl⟩
abbrev main_v171 : Ref sig .tc := ⟨.hbm, 183, rfl⟩
abbrev main_v172 : Ref sig .tc := ⟨.hbm, 184, rfl⟩
abbrev main_v173 : Ref sig .tc := ⟨.hbm, 185, rfl⟩
abbrev main_v174 : Ref sig .tc := ⟨.hbm, 186, rfl⟩
abbrev main_v175 : Ref sig .tc := ⟨.hbm, 187, rfl⟩
abbrev main_v176 : Ref sig .tc := ⟨.hbm, 188, rfl⟩
abbrev main_v177 : Ref sig .tc := ⟨.hbm, 189, rfl⟩
abbrev main_v178 : Ref sig .tc := ⟨.hbm, 190, rfl⟩
abbrev main_v179 : Ref sig .tc := ⟨.hbm, 191, rfl⟩
abbrev main_v180 : Ref sig .tc := ⟨.hbm, 192, rfl⟩
abbrev main_v181 : Ref sig .tc := ⟨.hbm, 193, rfl⟩
abbrev main_v182 : Ref sig .tc := ⟨.hbm, 194, rfl⟩
abbrev main_v183 : Ref sig .tc := ⟨.hbm, 195, rfl⟩
abbrev main_v184 : Ref sig .tc := ⟨.hbm, 196, rfl⟩
abbrev main_v185 : Ref sig .tc := ⟨.hbm, 197, rfl⟩
abbrev main_v186 : Ref sig .tc := ⟨.hbm, 198, rfl⟩
abbrev main_v187 : Ref sig .tc := ⟨.hbm, 199, rfl⟩
abbrev main_v188 : Ref sig .tc := ⟨.hbm, 200, rfl⟩
abbrev main_v189 : Ref sig .tc := ⟨.hbm, 201, rfl⟩
abbrev main_v190 : Ref sig .tc := ⟨.hbm, 202, rfl⟩
abbrev main_v191 : Ref sig .tc := ⟨.hbm, 203, rfl⟩
abbrev main_v192 : Ref sig .tc := ⟨.hbm, 204, rfl⟩
abbrev main_v193 : Ref sig .tc := ⟨.hbm, 205, rfl⟩
abbrev main_cst_3 : Ref sig .tc := ⟨.hbm, 206, rfl⟩
abbrev main_v194 : Ref sig .tc := ⟨.hbm, 207, rfl⟩
abbrev main_v195 : Ref sig .tc := ⟨.hbm, 208, rfl⟩
abbrev main_v196 : Ref sig .tc := ⟨.hbm, 209, rfl⟩
abbrev main_v197 : Ref sig .tc := ⟨.hbm, 210, rfl⟩
abbrev main_v198 : Ref sig .tc := ⟨.hbm, 211, rfl⟩
abbrev main_v199 : Ref sig .tc := ⟨.hbm, 212, rfl⟩
abbrev main_v200 : Ref sig .tc := ⟨.hbm, 213, rfl⟩
abbrev main_v201 : Ref sig .tc := ⟨.hbm, 214, rfl⟩
abbrev main_v202 : Ref sig .tc := ⟨.hbm, 215, rfl⟩
abbrev main_v203 : Ref sig .tc := ⟨.hbm, 216, rfl⟩
abbrev main_v204 : Ref sig .tc := ⟨.hbm, 217, rfl⟩
abbrev main_v205 : Ref sig .tc := ⟨.hbm, 218, rfl⟩
abbrev main_v206 : Ref sig .tc := ⟨.hbm, 219, rfl⟩
abbrev main_v207 : Ref sig .tc := ⟨.hbm, 220, rfl⟩
abbrev main_v208 : Ref sig .tc := ⟨.hbm, 221, rfl⟩
abbrev main_v209 : Ref sig .tc := ⟨.hbm, 222, rfl⟩
abbrev main_v210 : Ref sig .tc := ⟨.hbm, 223, rfl⟩
abbrev main_v211 : Ref sig .tc := ⟨.hbm, 224, rfl⟩
abbrev main_v212 : Ref sig .tc := ⟨.hbm, 225, rfl⟩
abbrev main_v213_0 : Ref sig .tc := ⟨.hbm, 226, rfl⟩
abbrev main_v213_1 : Ref sig .tc := ⟨.hbm, 227, rfl⟩
abbrev main_v213_2 : Ref sig .tc := ⟨.hbm, 228, rfl⟩
abbrev main_c : Ref sig .tc := ⟨.hbm, 229, rfl⟩
abbrev main_c_4 : Ref sig .tc := ⟨.hbm, 230, rfl⟩
abbrev main_call0_v0 : Ref sig .tc := ⟨.hbm, 231, rfl⟩
abbrev main_call0_v1 : Ref sig .tc := ⟨.hbm, 232, rfl⟩
abbrev main_call0_v2 : Ref sig .tc := ⟨.hbm, 233, rfl⟩
abbrev main_call0_v3 : Ref sig .tc := ⟨.hbm, 234, rfl⟩
abbrev main_call0_v4 : Ref sig .tc := ⟨.hbm, 235, rfl⟩
abbrev main_v215 : Ref sig .tc := ⟨.hbm, 236, rfl⟩
abbrev main_v216 : Ref sig .tc := ⟨.hbm, 237, rfl⟩
abbrev main_v214 : Ref sig .tc := ⟨.smem, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg6_0 : Ref sig .tc := ⟨.vmem, 6, rfl⟩
abbrev cc1_stg6_1 : Ref sig .tc := ⟨.vmem, 7, rfl⟩
abbrev cc2_stg0_0 : Ref sig .tc := ⟨.vmem, 8, rfl⟩
abbrev cc2_stg5_0 : Ref sig .tc := ⟨.vmem, 9, rfl⟩
abbrev cc2_stg6_0 : Ref sig .tc := ⟨.vmem, 10, rfl⟩
abbrev cc2_stg7_0 : Ref sig .tc := ⟨.vmem, 11, rfl⟩
abbrev cc3_stg0_0 : Ref sig .tc := ⟨.vmem, 12, rfl⟩
abbrev cc3_stg0_1 : Ref sig .tc := ⟨.vmem, 13, rfl⟩
abbrev cc3_stg7_0 : Ref sig .tc := ⟨.vmem, 14, rfl⟩
abbrev cc3_stg7_1 : Ref sig .tc := ⟨.vmem, 15, rfl⟩
abbrev cc1_stg1_0 : Ref sig .tc := ⟨.smem, 0, rfl⟩
abbrev cc1_stg2_0 : Ref sig .tc := ⟨.smem, 1, rfl⟩
abbrev cc1_stg3_0 : Ref sig .tc := ⟨.smem, 2, rfl⟩
abbrev cc1_stg4_0 : Ref sig .tc := ⟨.smem, 3, rfl⟩
abbrev cc1_stg5_0 : Ref sig .tc := ⟨.smem, 4, rfl⟩
abbrev cc2_stg1_0 : Ref sig .tc := ⟨.smem, 5, rfl⟩
abbrev cc2_stg2_0 : Ref sig .tc := ⟨.smem, 6, rfl⟩
abbrev cc2_stg3_0 : Ref sig .tc := ⟨.smem, 7, rfl⟩
abbrev cc2_stg4_0 : Ref sig .tc := ⟨.smem, 8, rfl⟩
abbrev cc3_stg1_0 : Ref sig .tc := ⟨.smem, 10, rfl⟩
abbrev cc3_stg2_0 : Ref sig .tc := ⟨.smem, 11, rfl⟩
abbrev cc3_stg3_0 : Ref sig .tc := ⟨.smem, 12, rfl⟩
abbrev cc3_stg4_0 : Ref sig .tc := ⟨.smem, 13, rfl⟩
abbrev cc3_stg5_0 : Ref sig .tc := ⟨.smem, 14, rfl⟩
abbrev cc3_stg6_0 : Ref sig .tc := ⟨.smem, 15, rfl⟩
abbrev cc0_sem0_0 : DmaSem sig := 0
abbrev cc0_sem0_1 : DmaSem sig := 1
abbrev cc0_sem1_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9
abbrev cc1_sem6_0 : DmaSem sig := 10
abbrev cc1_sem6_1 : DmaSem sig := 11
abbrev cc2_sem0_0 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem6_0 : DmaSem sig := 18
abbrev cc2_sem7_0 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem3_0 : DmaSem sig := 24
abbrev cc3_sem4_0 : DmaSem sig := 25
abbrev cc3_sem5_0 : DmaSem sig := 26
abbrev cc3_sem6_0 : DmaSem sig := 27
abbrev cc3_sem7_0 : DmaSem sig := 28
abbrev cc3_sem7_1 : DmaSem sig := 29

abbrev nD : Nat := 1
abbrev τ : Topo := Topo.v7x

variable {F : FTy → Type} [FloatOps F]

abbrev grid0 : Pipeline.Grid := ⟨1, ![256], ![false]⟩

def k0_cond2 (i : grid0.Coords) : BitVec 1 :=
  let arg0 : BitVec 32 := BitVec.ofNat 32 (i 0).val
  let c255_i32 : BitVec 32 := 255#32
  let v115 : BitVec 1 := Scalar.cmpi .eq arg0 c255_i32
  let v116 : BitVec 32 := Scalar.extui v115
  let c0_i32_59 : BitVec 32 := 0#32
  let v117 : BitVec 1 := Scalar.cmpi .ne v116 c0_i32_59
  v117

def cc0_transform_0 (i : grid0.Coords) : Fin 5 → Nat :=
  let arg0 : BitVec 32 := BitVec.ofNat 32 (i 0).val
  let c64_i32 : BitVec 32 := 64#32
  let v0 : BitVec 32 := Scalar.divsi arg0 c64_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c64_i32 c0_i32_1
  let v7 : BitVec 32 := Scalar.extui v6
  let c0_i32_2 : BitVec 32 := 0#32
  let v8 : BitVec 1 := Scalar.cmpi .slt c64_i32 c0_i32_2
  let v9 : BitVec 32 := Scalar.extui v8
  let v10 : BitVec 32 := Scalar.subi v7 v9
  let v11 : BitVec 1 := Scalar.cmpi .ne v5 v10
  let v12 : BitVec 32 := Scalar.remsi arg0 c64_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32_4 : BitVec 32 := 64#32
  let c0_i32_5 : BitVec 32 := 0#32
  let v17 : BitVec 1 := Scalar.cmpi .eq c64_i32_4 c0_i32_5
  let c1_i32_6 : BitVec 32 := 1#32
  let v18 : BitVec 32 := Scalar.select v17 c1_i32_6 c64_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, v26.toNat, c0_i32_11.toNat, c0_i32_12.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x3x1x392x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![256], ![false]⟩

def cc1_transform_0 (i : grid1.Coords) : Fin 5 → Nat :=
  let arg0 : BitVec 32 := BitVec.ofNat 32 (i 0).val
  let c64_i32 : BitVec 32 := 64#32
  let v0 : BitVec 32 := Scalar.divsi arg0 c64_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c64_i32 c0_i32_1
  let v7 : BitVec 32 := Scalar.extui v6
  let c0_i32_2 : BitVec 32 := 0#32
  let v8 : BitVec 1 := Scalar.cmpi .slt c64_i32 c0_i32_2
  let v9 : BitVec 32 := Scalar.extui v8
  let v10 : BitVec 32 := Scalar.subi v7 v9
  let v11 : BitVec 1 := Scalar.cmpi .ne v5 v10
  let v12 : BitVec 32 := Scalar.remsi arg0 c64_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32_4 : BitVec 32 := 64#32
  let c0_i32_5 : BitVec 32 := 0#32
  let v17 : BitVec 1 := Scalar.cmpi .eq c64_i32_4 c0_i32_5
  let c1_i32_6 : BitVec 32 := 1#32
  let v18 : BitVec 32 := Scalar.select v17 c1_i32_6 c64_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, v26.toNat, c0_i32_11.toNat, c0_i32_12.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x3x1x392x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .smem S12 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .smem S4 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .smem S4 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .smem S4 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .smem S4 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1x1x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := .none

abbrev stage2_0 : Fin 1 → Memref sig .tc .vmem S4x64 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .smem S8 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .smem S8 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .smem S8 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .smem S1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S4x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev stage2_6 : Fin 1 → Memref sig .tc .vmem S4x16 .i32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))

abbrev stage2_7 : Fin 1 → Memref sig .tc .vmem S4x16 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))

abbrev grid3 : Pipeline.Grid := ⟨2, ![4, 16], ![false, false]⟩

abbrev pre3 : Pipeline.Prefetch sig := ⟨1, ![main_v214.idx], fun | 0 => main_v214.names | ⟨_ + 1, h⟩ => absurd h (Nat.not_lt.2 (Nat.le_add_left _ _)), fun | 0 => rfl | ⟨_ + 1, h⟩ => absurd h (Nat.not_lt.2 (Nat.le_add_left _ _))⟩

def k3_off1 (i : grid3.Coords) : Fin 2 → Nat :=
  let arg0 : BitVec 32 := BitVec.ofNat 32 (i 0).val
  let v0 : Index := Scalar.indexCast arg0
  let arg1 : BitVec 32 := BitVec.ofNat 32 (i 1).val
  let v1 : Index := Scalar.indexCast arg1
  ![v0.toNat, v1.toNat]
def cc3_transform_0 (k3_off1_inb : ∀ i : grid3.Coords, ∀ a, (k3_off1 i) a + S1x1.size a ≤ S4x16.size a) (numel1_S1x1 : S1x1.numel = 1) (pf : pre3.Contents (Elt F)) (i : grid3.Coords) : Fin 5 → Nat :=
  let arg0 : BitVec 32 := BitVec.ofNat 32 (i 0).val
  let arg1 : BitVec 32 := BitVec.ofNat 32 (i 1).val
  let v0 : Index := Scalar.indexCast arg0
  let v1 : Index := Scalar.indexCast arg1
  let v2 : BitVec 32 := pf.at 0 (Rect.unit (s := S4x16) ![v0.toNat, v1.toNat] S1x1.size (k3_off1_inb i)) numel1_S1x1
  let c0_i32 : BitVec 32 := 0#32
  let c0_i32_0 : BitVec 32 := 0#32
  let c0_i32_1 : BitVec 32 := 0#32
  let c0_i32_2 : BitVec 32 := 0#32
  ![arg0.toNat, c0_i32.toNat, v2.toNat, c0_i32_0.toNat, c0_i32_1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc3_transform_3 (i : grid3.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc3_transform_4 (i : grid3.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc3_transform_5 (i : grid3.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc3_transform_6 (i : grid3.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc3_transform_7 (i : grid3.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage3_0 : Fin 2 → Memref sig .tc .vmem S1x3x1x392x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 1 → Memref sig .tc .smem S4x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false]

abbrev stage3_2 : Fin 1 → Memref sig .tc .smem S12 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 1 → Memref sig .tc .smem S4 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 1 → Memref sig .tc .smem S4 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 1 → Memref sig .tc .smem S4 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false, false]

abbrev stage3_6 : Fin 1 → Memref sig .tc .smem S4 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false, false]

abbrev stage3_7 : Fin 2 → Memref sig .tc .vmem S1x4x1x392x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true, true]
-- ==== Reference.lean ====
abbrev S4x3x64x224x224 : Shape := ⟨5, ![4, 3, 64, 224, 224]⟩
abbrev S4x3 : Shape := ⟨2, ![4, 3]⟩
abbrev S4 : Shape := ⟨1, ![4]⟩
abbrev S8x1 : Shape := ⟨2, ![8, 1]⟩
abbrev S8 : Shape := ⟨1, ![8]⟩
abbrev S1x8 : Shape := ⟨2, ![1, 8]⟩
abbrev S1 : Shape := ⟨1, ![1]⟩
abbrev S4x64x224x224x4 : Shape := ⟨5, ![4, 64, 224, 224, 4]⟩
abbrev S4x4x64x224x224 : Shape := ⟨5, ![4, 4, 64, 224, 224]⟩
abbrev S_ : Shape := ⟨0, ![]⟩
abbrev S1x4x1x1x1 : Shape := ⟨5, ![1, 4, 1, 1, 1]⟩
abbrev S4x64 : Shape := ⟨2, ![4, 64]⟩
abbrev S4x64x1 : Shape := ⟨3, ![4, 64, 1]⟩
abbrev S4x64x8 : Shape := ⟨3, ![4, 64, 8]⟩
abbrev S1x1x8 : Shape := ⟨3, ![1, 1, 8]⟩
abbrev S1x1x1 : Shape := ⟨3, ![1, 1, 1]⟩
abbrev S4x8 : Shape := ⟨2, ![4, 8]⟩
abbrev S4x8x1 : Shape := ⟨3, ![4, 8, 1]⟩
abbrev S4x4x8x224x224 : Shape := ⟨5, ![4, 4, 8, 224, 224]⟩
abbrev S4x1x8x1x1 : Shape := ⟨5, ![4, 1, 8, 1, 1]⟩
abbrev S4x4x16x224x224 : Shape := ⟨5, ![4, 4, 16, 224, 224]⟩

abbrev nBuf : Space → Nat
  | .hbm => 159
  | .vmem => 0
  | .smem => 0
  | _ => 0

abbrev hbmTy0_0 (i : Nat) : BufTy := match i % 128 with
  | 0 => ⟨S4x3x64x224x224, .f32⟩
  | 1 => ⟨S4x3, .f32⟩
  | 2 => ⟨S4, .f32⟩
  | 3 => ⟨S4, .f32⟩
  | 4 => ⟨S8x1, .f32⟩
  | 5 => ⟨S8, .f32⟩
  | 6 => ⟨S1x8, .f32⟩
  | 7 => ⟨S1, .f32⟩
  | 8 => ⟨S4x64x224x224x4, .f32⟩
  | 9 => ⟨S4x4x64x224x224, .f32⟩
  | 10 => ⟨S_, .f32⟩
  | 11 => ⟨S4, .f32⟩
  | 12 => ⟨S1x4x1x1x1, .f32⟩
  | 13 => ⟨S_, .f32⟩
  | 14 => ⟨S1x4x1x1x1, .f32⟩
  | 15 => ⟨S1x4x1x1x1, .f32⟩
  | 16 => ⟨S_, .i32⟩
  | 17 => ⟨S_, .f32⟩
  | 18 => ⟨S4, .f32⟩
  | 19 => ⟨S1x4x1x1x1, .f32⟩
  | 20 => ⟨S_, .f32⟩
  | 21 => ⟨S1x4x1x1x1, .f32⟩
  | 22 => ⟨S1x4x1x1x1, .f32⟩
  | 23 => ⟨S4x4x64x224x224, .f32⟩
  | 24 => ⟨S4x4x64x224x224, .f32⟩
  | 25 => ⟨S4x4x64x224x224, .f32⟩
  | 26 => ⟨S_, .f32⟩
  | 27 => ⟨S_, .f32⟩
  | 28 => ⟨S_, .f32⟩
  | 29 => ⟨S_, .f32⟩
  | 30 => ⟨S4, .f32⟩
  | 31 => ⟨S1x4x1x1x1, .f32⟩
  | 32 => ⟨S1x4x1x1x1, .f32⟩
  | 33 => ⟨S1x4x1x1x1, .f32⟩
  | 34 => ⟨S_, .f32⟩
  | 35 => ⟨S_, .i1⟩
  | 36 => ⟨S_, .f32⟩
  | 37 => ⟨S_, .f32⟩
  | 38 => ⟨S1x4x1x1x1, .f32⟩
  | 39 => ⟨S1x4x1x1x1, .f32⟩
  | 40 => ⟨S4x4x64x224x224, .f32⟩
  | 41 => ⟨S4x4x64x224x224, .f32⟩
  | 42 => ⟨S_, .f32⟩
  | 43 => ⟨S1x4x1x1x1, .f32⟩
  | 44 => ⟨S1x4x1x1x1, .f32⟩
  | 45 => ⟨S1x4x1x1x1, .f32⟩
  | 46 => ⟨S4x4x64x224x224, .f32⟩
  | 47 => ⟨S4x4x64x224x224, .f32⟩
  | 48 => ⟨S1x4x1x1x1, .f32⟩
  | 49 => ⟨S4x4x64x224x224, .f32⟩
  | 50 => ⟨S4x4x64x224x224, .f32⟩
  | 51 => ⟨S1x4x1x1x1, .f32⟩
  | 52 => ⟨S4x4x64x224x224, .f32⟩
  | 53 => ⟨S4x4x64x224x224, .f32⟩
  | 54 => ⟨S_, .f32⟩
  | 55 => ⟨S4x4x64x224x224, .f32⟩
  | 56 => ⟨S4x4x64x224x224, .f32⟩
  | 57 => ⟨S_, .f32⟩
  | 58 => ⟨S4x64, .f32⟩
  | 59 => ⟨S_, .f32⟩
  | 60 => ⟨S4x64, .f32⟩
  | 61 => ⟨S4x64, .f32⟩
  | 62 => ⟨S4x64x1, .f32⟩
  | 63 => ⟨S1x8, .f32⟩
  | 64 => ⟨S4x64x8, .f32⟩
  | 65 => ⟨S1x1x8, .f32⟩
  | 66 => ⟨S4x64x8, .f32⟩
  | 67 => ⟨S4x64x8, .f32⟩
  | 68 => ⟨S_, .f32⟩
  | 69 => ⟨S4x64x8, .f32⟩
  | 70 => ⟨S4x64x8, .f32⟩
  | 71 => ⟨S8x1, .f32⟩
  | 72 => ⟨S4x64x1, .f32⟩
  | 73 => ⟨S1x1x1, .f32⟩
  | 74 => ⟨S4x64x1, .f32⟩
  | 75 => ⟨S4x64x1, .f32⟩
  | 76 => ⟨S4x64, .f32⟩
  | 77 => ⟨S4x64, .f32⟩
  | 78 => ⟨S4x64, .f32⟩
  | 79 => ⟨S_, .f32⟩
  | 80 => ⟨S4x64, .f32⟩
  | 81 => ⟨S4x64, .f32⟩
  | 82 => ⟨S_, .f32⟩
  | 83 => ⟨S4x64, .f32⟩
  | 84 => ⟨S4x64, .f32⟩
  | 85 => ⟨S4x8, .f32⟩
  | 86 => ⟨S4x8, .i32⟩
  | 87 => ⟨S4x64, .f32⟩
  | 88 => ⟨S4x8, .f32⟩
  | 89 => ⟨S4x8, .i32⟩
  | 90 => ⟨S_, .i32⟩
  | 91 => ⟨S4x8, .i32⟩
  | 92 => ⟨S4x8, .i1⟩
  | 93 => ⟨S_, .i32⟩
  | 94 => ⟨S4x8, .i32⟩
  | 95 => ⟨S4x8, .i32⟩
  | 96 => ⟨S4x8, .i32⟩
  | 97 => ⟨S4x8x1, .i32⟩
  | 98 => ⟨S4x4x8x224x224, .f32⟩
  | 99 => ⟨S_, .i32⟩
  | 100 => ⟨S4x8, .i32⟩
  | 101 => ⟨S4x8, .i1⟩
  | 102 => ⟨S_, .i32⟩
  | 103 => ⟨S4x8, .i32⟩
  | 104 => ⟨S4x8, .i32⟩
  | 105 => ⟨S4x8, .i32⟩
  | 106 => ⟨S4x8x1, .i32⟩
  | 107 => ⟨S1, .i32⟩
  | 108 => ⟨S_, .i32⟩
  | 109 => ⟨S4x8x1, .i32⟩
  | 110 => ⟨S4x8x1, .i1⟩
  | 111 => ⟨S1x1x1, .i32⟩
  | 112 => ⟨S4x8x1, .i32⟩
  | 113 => ⟨S4x8x1, .i1⟩
  | 114 => ⟨S4x8x1, .i1⟩
  | 115 => ⟨S_, .i1⟩
  | 116 => ⟨S4x8, .i1⟩
  | 117 => ⟨S4x8, .f32⟩
  | 118 => ⟨S_, .f32⟩
  | 119 => ⟨S4x8, .f32⟩
  | 120 => ⟨S4x8, .f32⟩
  | 121 => ⟨S4x1x8x1x1, .f32⟩
  | 122 => ⟨S4x4x8x224x224, .f32⟩
  | 123 => ⟨S4x4x8x224x224, .f32⟩
  | 124 => ⟨S_, .i32⟩
  | 125 => ⟨S4x8, .i32⟩
  | 126 => ⟨S4x8, .i1⟩
  | 127 => ⟨S_, .i32⟩
  | _ => ⟨S4x3x64x224x224, .f32⟩

abbrev hbmTy0_1 (i : Nat) : BufTy := match i % 128 with
  | 0 => ⟨S4x8, .i32⟩
  | 1 => ⟨S4x8, .i32⟩
  | 2 => ⟨S4x8, .i32⟩
  | 3 => ⟨S4x8x1, .i32⟩
  | 4 => ⟨S4x4x8x224x224, .f32⟩
  | 5 => ⟨S_, .i32⟩
  | 6 => ⟨S4x8, .i32⟩
  | 7 => ⟨S4x8, .i1⟩
  | 8 => ⟨S_, .i32⟩
  | 9 => ⟨S4x8, .i32⟩
  | 10 => ⟨S4x8, .i32⟩
  | 11 => ⟨S4x8, .i32⟩
  | 12 => ⟨S4x8x1, .i32⟩
  | 13 => ⟨S1, .i32⟩
  | 14 => ⟨S_, .i32⟩
  | 15 => ⟨S4x8x1, .i32⟩
  | 16 => ⟨S4x8x1, .i1⟩
  | 17 => ⟨S1x1x1, .i32⟩
  | 18 => ⟨S4x8x1, .i32⟩
  | 19 => ⟨S4x8x1, .i1⟩
  | 20 => ⟨S4x8x1, .i1⟩
  | 21 => ⟨S_, .i1⟩
  | 22 => ⟨S4x8, .i1⟩
  | 23 => ⟨S4x8, .f32⟩
  | 24 => ⟨S_, .f32⟩
  | 25 => ⟨S4x8, .f32⟩
  | 26 => ⟨S4x8, .f32⟩
  | 27 => ⟨S4x1x8x1x1, .f32⟩
  | 28 => ⟨S4x4x8x224x224, .f32⟩
  | 29 => ⟨S4x4x8x224x224, .f32⟩
  | 30 => ⟨S4x4x16x224x224, .f32⟩
  | _ => ⟨S4x3x64x224x224, .f32⟩

abbrev hbmTy (i : Nat) : BufTy := match i / 128 with
  | 0 => hbmTy0_0 i
  | 1 => hbmTy0_1 i
  | _ => ⟨S4x3x64x224x224, .f32⟩

abbrev bufTy : (tb : Table) → Fin (tcTables nBuf tb) → BufTy
  | .hbm, ⟨i, _⟩ => hbmTy i
  | _, _ => ⟨S4x3x64x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_call0_cst : Ref sig .tc := ⟨.hbm, 17, rfl⟩
abbrev main_call0_v0 : Ref sig .tc := ⟨.hbm, 18, rfl⟩
abbrev main_call0_v1 : Ref sig .tc := ⟨.hbm, 19, rfl⟩
abbrev main_call0_cst_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_cst_1 : Ref sig .tc := ⟨.hbm, 27, rfl⟩
abbrev main_call0_v8 : Ref sig .tc := ⟨.hbm, 28, rfl⟩
abbrev main_call0_cst_2 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_v12 : Ref sig .tc := ⟨.hbm, 33, rfl⟩
abbrev main_call0_cst_3 : Ref sig .tc := ⟨.hbm, 34, rfl⟩
abbrev main_call0_v13 : Ref sig .tc := ⟨.hbm, 35, rfl⟩
abbrev main_call0_cst_4 : Ref sig .tc := ⟨.hbm, 36, rfl⟩
abbrev main_call0_call0_v0 : Ref sig .tc := ⟨.hbm, 37, rfl⟩
abbrev main_call0_call0_v1 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_cst_1 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_call1_cst : Ref sig .tc := ⟨.hbm, 54, rfl⟩
abbrev main_call1_v0 : Ref sig .tc := ⟨.hbm, 55, rfl⟩
abbrev main_v20 : Ref sig .tc := ⟨.hbm, 56, rfl⟩
abbrev main_cst_2 : Ref sig .tc := ⟨.hbm, 57, rfl⟩
abbrev main_v21 : Ref sig .tc := ⟨.hbm, 58, rfl⟩
abbrev main_cst_3 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_call2_cst : Ref sig .tc := ⟨.hbm, 68, rfl⟩
abbrev main_call2_v0 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_cst_4 : Ref sig .tc := ⟨.hbm, 79, rfl⟩
abbrev main_v39 : Ref sig .tc := ⟨.hbm, 80, rfl⟩
abbrev main_v40 : Ref sig .tc := ⟨.hbm, 81, rfl⟩
abbrev main_cst_5 : Ref sig .tc := ⟨.hbm, 82, rfl⟩
abbrev main_v41 : Ref sig .tc := ⟨.hbm, 83, rfl⟩
abbrev main_v42 : Ref sig .tc := ⟨.hbm, 84, rfl⟩
abbrev main_values : Ref sig .tc := ⟨.hbm, 85, rfl⟩
abbrev main_indices : Ref sig .tc := ⟨.hbm, 86, rfl⟩
abbrev main_v43 : Ref sig .tc := ⟨.hbm, 87, rfl⟩
abbrev main_values_6 : Ref sig .tc := ⟨.hbm, 88, rfl⟩
abbrev main_indices_7 : Ref sig .tc := ⟨.hbm, 89, rfl⟩
abbrev main_c_8 : Ref sig .tc := ⟨.hbm, 90, rfl⟩
abbrev main_v44 : Ref sig .tc := ⟨.hbm, 91, rfl⟩
abbrev main_v45 : Ref sig .tc := ⟨.hbm, 92, rfl⟩
abbrev main_c_9 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_call3_c : Ref sig .tc := ⟨.hbm, 99, rfl⟩
abbrev main_call3_v0 : Ref sig .tc := ⟨.hbm, 100, rfl⟩
abbrev main_call3_v1 : Ref sig .tc := ⟨.hbm, 101, rfl⟩
abbrev main_call3_c_0 : Ref sig .tc := ⟨.hbm, 102, rfl⟩
abbrev main_call3_v2 : Ref sig .tc := ⟨.hbm, 103, rfl⟩
abbrev main_call3_v3 : Ref sig .tc := ⟨.hbm, 104, rfl⟩
abbrev main_call3_v4 : Ref sig .tc := ⟨.hbm, 105, rfl⟩
abbrev main_call3_v5 : Ref sig .tc := ⟨.hbm, 106, rfl⟩
abbrev main_call3_c_1 : Ref sig .tc := ⟨.hbm, 107, rfl⟩
abbrev main_call3_c_2 : Ref sig .tc := ⟨.hbm, 108, rfl⟩
abbrev main_call3_v6 : Ref sig .tc := ⟨.hbm, 109, rfl⟩
abbrev main_call3_v7 : Ref sig .tc := ⟨.hbm, 110, rfl⟩
abbrev main_call3_v8 : Ref sig .tc := ⟨.hbm, 111, rfl⟩
abbrev main_call3_v9 : Ref sig .tc := ⟨.hbm, 112, rfl⟩
abbrev main_call3_v10 : Ref sig .tc := ⟨.hbm, 113, rfl⟩
abbrev main_call3_v11 : Ref sig .tc := ⟨.hbm, 114, rfl⟩
abbrev main_call3_c_3 : Ref sig .tc := ⟨.hbm, 115, rfl⟩
abbrev main_call3_v12 : Ref sig .tc := ⟨.hbm, 116, rfl⟩
abbrev main_call3_v13 : Ref sig .tc := ⟨.hbm, 117, rfl⟩
abbrev main_call3_cst : Ref sig .tc := ⟨.hbm, 118, rfl⟩
abbrev main_call3_v14 : Ref sig .tc := ⟨.hbm, 119, rfl⟩
abbrev main_v51 : Ref sig .tc := ⟨.hbm, 120, rfl⟩
abbrev main_v52 : Ref sig .tc := ⟨.hbm, 121, rfl⟩
abbrev main_v53 : Ref sig .tc := ⟨.hbm, 122, rfl⟩
abbrev main_v54 : Ref sig .tc := ⟨.hbm, 123, rfl⟩
abbrev main_c_10 : Ref sig .tc := ⟨.hbm, 124, rfl⟩
abbrev main_v55 : Ref sig .tc := ⟨.hbm, 125, rfl⟩
abbrev main_v56 : Ref sig .tc := ⟨.hbm, 126, rfl⟩
abbrev main_c_11 : Ref sig .tc := ⟨.hbm, 127, rfl⟩
abbrev main_v57 : Ref sig .tc := ⟨.hbm, 128, rfl⟩
abbrev main_v58 : Ref sig .tc := ⟨.hbm, 129, rfl⟩
abbrev main_v59 : Ref sig .tc := ⟨.hbm, 130, rfl⟩
abbrev main_v60 : Ref sig .tc := ⟨.hbm, 131, rfl⟩
abbrev main_v61 : Ref sig .tc := ⟨.hbm, 132, rfl⟩
abbrev main_call4_c : Ref sig .tc := ⟨.hbm, 133, rfl⟩
abbrev main_call4_v0 : Ref sig .tc := ⟨.hbm, 134, rfl⟩
abbrev main_call4_v1 : Ref sig .tc := ⟨.hbm, 135, rfl⟩
abbrev main_call4_c_0 : Ref sig .tc := ⟨.hbm, 136, rfl⟩
abbrev main_call4_v2 : Ref sig .tc := ⟨.hbm, 137, rfl⟩
abbrev main_call4_v3 : Ref sig .tc := ⟨.hbm, 138, rfl⟩
abbrev main_call4_v4 : Ref sig .tc := ⟨.hbm, 139, rfl⟩
abbrev main_call4_v5 : Ref sig .tc := ⟨.hbm, 140, rfl⟩
abbrev main_call4_c_1 : Ref sig .tc := ⟨.hbm, 141, rfl⟩
abbrev main_call4_c_2 : Ref sig .tc := ⟨.hbm, 142, rfl⟩
abbrev main_call4_v6 : Ref sig .tc := ⟨.hbm, 143, rfl⟩
abbrev main_call4_v7 : Ref sig .tc := ⟨.hbm, 144, rfl⟩
abbrev main_call4_v8 : Ref sig .tc := ⟨.hbm, 145, rfl⟩
abbrev main_call4_v9 : Ref sig .tc := ⟨.hbm, 146, rfl⟩
abbrev main_call4_v10 : Ref sig .tc := ⟨.hbm, 147, rfl⟩
abbrev main_call4_v11 : Ref sig .tc := ⟨.hbm, 148, rfl⟩
abbrev main_call4_c_3 : Ref sig .tc := ⟨.hbm, 149, rfl⟩
abbrev main_call4_v12 : Ref sig .tc := ⟨.hbm, 150, rfl⟩
abbrev main_call4_v13 : Ref sig .tc := ⟨.hbm, 151, rfl⟩
abbrev main_call4_cst : Ref sig .tc := ⟨.hbm, 152, rfl⟩
abbrev main_call4_v14 : Ref sig .tc := ⟨.hbm, 153, rfl⟩
abbrev main_v62 : Ref sig .tc := ⟨.hbm, 154, rfl⟩
abbrev main_v63 : Ref sig .tc := ⟨.hbm, 155, rfl⟩
abbrev main_v64 : Ref sig .tc := ⟨.hbm, 156, rfl⟩
abbrev main_v65 : Ref sig .tc := ⟨.hbm, 157, rfl⟩
abbrev main_v66 : Ref sig .tc := ⟨.hbm, 158, rfl⟩

abbrev nD : Nat := 1
abbrev τ : Topo := Topo.v7x

variable {F : FTy → Type} [FloatOps F]
-- ==== Proof.K0Frame.lean ====
/- Custom call 0 (the channel moments, summed over the grid in a scratch buffer): the body's run in its three cases, what the
   scratch and the output hold after each point, the proof data and the body obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Exec
public import Idealize.ShloMosaic.Lib.Pipeline.Kit

@[expose] public section

noncomputable section

namespace Cert.KernelIdeal.Calls.K0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

variable (𝒱₀ : Variants) (V : (c : Dev nD) → (b : Ref sig .tc) → Buf (Elt F) ((c : Thread nD τ).loc b)) (D : Dev nD → CellTallies nD τ sig Ix)

/-- The region's invariant on core `c`: the library's `Pipeline.ΦA spec0 c` at any index and level type. -/
def ΦK (c : Dev nD) : sProp 𝕄 :=
  iprop(Pipeline.scopedRest (Ix := Ix) (Name := ℕ) (U := U) (Lvl := Lvl) (Val := Elt F) spec0 c ∗ ∃ r, prngReg c r)

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Ix ℕ U Lvl cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 256 = 0 :=
  (fun t => by
    have ht : t.val < 256 := Nat.lt_of_lt_of_eq t.isLt N_0
    have e0 : (grid0.coords t 0).val = t.val / 1 % 256 := Pipeline.Grid.coords_val t 0 (by decide) rfl
    simp only [cond0_0, e0]
    word_cmp
   : ∀ t : Fin grid0.N, cond0_0 (grid0.coords t) ↔ t.val % 256 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 256 = 255 :=
  (fun t => by
    have ht : t.val < 256 := Nat.lt_of_lt_of_eq t.isLt N_0
    have e0 : (grid0.coords t 0).val = t.val / 1 % 256 := Pipeline.Grid.coords_val t 0 (by decide) rfl
    simp only [cond0_1, k0_cond2, e0]
    word_cmp
   : ∀ t : Fin grid0.N, cond0_1 (grid0.coords t) ↔ t.val % 256 = 255)

/-! ## Where the windows are idle (the printed configuration's table `Cfg.idle`) -/

/-- Window 0 is never idle (an input). -/
theorem liveAt0_0 : ∀ t : Fin cfg0.N, cfg0.idle 0 (grid0.coords t) = false := fun _ => rfl
/-- At the points of case A the printed configuration (`Cfg.idle`) calls output 1 idle: the case stores nothing into it. -/
theorem idleAt0_1_A : ∀ t : Fin cfg0.N, cond0_0 (grid0.coords t) → ¬cond0_1 (grid0.coords t) → cfg0.idle 1 (grid0.coords t) = true := by decide +kernel
/-- At the points of case A the pipeline does not write output 1's block back. -/
theorem noFlush0_1_A : ∀ t : Fin cfg0.N, cond0_0 (grid0.coords t) → ¬cond0_1 (grid0.coords t) → (cfg0.win 1).flush t = false := by decide +kernel
/-- At the points of case B the printed configuration (`Cfg.idle`) calls output 1 idle: the case stores nothing into it. -/
theorem idleAt0_1_B : ∀ t : Fin cfg0.N, ¬cond0_0 (grid0.coords t) → ¬cond0_1 (grid0.coords t) → cfg0.idle 1 (grid0.coords t) = true := by decide +kernel
/-- At the points of case B the pipeline does not write output 1's block back. -/
theorem noFlush0_1_B : ∀ t : Fin cfg0.N, ¬cond0_0 (grid0.coords t) → ¬cond0_1 (grid0.coords t) → (cfg0.win 1).flush t = false := by decide +kernel
/-- At the points of case C the printed configuration (`Cfg.idle`) calls output 1 live: the case stores into it. -/
theorem liveAt0_1_C : ∀ t : Fin cfg0.N, ¬cond0_0 (grid0.coords t) → cond0_1 (grid0.coords t) → cfg0.idle 1 (grid0.coords t) = false := by decide +kernel

/-! ## The kernel body on any staging memrefs: a subtype the run finds -/

/-- One staging buffer of output window 1, through which its contents are stated (`View.read_writes_of_cover`: the
    choice does not matter). -/
abbrev VO0_1 : View sig .tc .vmem S9x128 .f32 := (Memref.whole cc0_stg1_0 : Memref sig .tc .vmem S9x128 .f32).view
/-- Each window's current staging memref at point `t`, spelled as the pipeline passes it (`bodyAt0`), and its wholeness. -/
abbrev ms0_0 (t : Fin cfg0.N) : Memref sig .tc .vmem S1x3x1x392x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S9x128 .f32 := win0_1.stage (cfg0.slots t 1)
abbrev hs0_1 (t : Fin cfg0.N) : (ms0_1 t).IsWhole := hstage0_1 ((cfg0.slots t 1).cast nbuf0_1)
/-- The scratch operands: whole scoped buffers of the kernel's own, passed beside the windows. -/
abbrev scM0_0 : Memref sig .tc .vmem S9x8x128 .f32 := Memref.whole cc0_scratch0
/-- The scratch `arg3` the kernel carries between points, as a view: what it holds is stated through it. -/
abbrev VS0_0 : View sig .tc .vmem S9x8x128 .f32 := scM0_0.view

/-- The frame kit's invariant with the scratch operands as memrefs owned at some contents (`Gen.scopedRest0_eq`,
    Lib/Memref.lean `owns_whole`): what the body obligation hands the run and takes back. -/
theorem PhiA0_eq (c : Dev nD) :
    (ΦK (F := F) (Ix := Ix) (U := U) (Lvl := Lvl) c : sProp 𝕄)
      = iprop(iprop((∃ d, owns (c : Thread nD τ) scM0_0 fullShare d) ∗ Pipeline.scopedRestBut (Ix := Ix) (Name := ℕ) (U := U) (Lvl := Lvl) (Val := Elt F) spec0 c [cc0_scratch0]) ∗ (∃ r, prngReg c r)) := by
  unfold ΦK; rw [scopedRest0_split]; simp only [scM0_0, owns_whole]; try rfl

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0), WITH the
    proof that on whole staging memrefs — the inputs' at their contents, the outputs it leaves idle (1: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S1x3x1x392x128 .f32) (harg1 : arg1.IsWhole) (arg2 : Memref sig .tc .vmem S9x128 .f32) (harg2 : arg2.IsWhole) (arg3 : Memref sig .tc .vmem S9x8x128 .f32) (harg3 : arg3.IsWhole) (hc0 : cond0_0 i) (hc1 : ¬cond0_1 i)
    (x0 : Vec F S1x3x1x392x128 .f32) :
    Σ' (L1 : List (View.Piece (Elt F) S9x128 .f32)), { LS0 : List (View.Piece (Elt F) S9x8x128 .f32) //
      ∀ (xi1 : Vec F S9x128 .f32) (E : Set ℕ) (K : PUnit → sProp 𝕄),
        iprop(owns (c : Thread nD τ) arg1 fullShare x0 ∗ owns (c : Thread nD τ) arg2 fullShare xi1 ∗ (∃ d, owns (c : Thread nD τ) arg3 fullShare d)
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) 𝒱₀ c none) E (cc0__moments_body i arg1 harg1 arg2 harg2 arg3 harg3) K } := by
  refine ⟨[], ?_, fun xi1 E K => ?run⟩
  case run =>
    simp only [cc0__moments_body_eq_skeleton]; unfold cc0__moments_body_skel
    simp only [k0_part1_eq_skeleton, k0_part2_eq_skeleton, k0_part3_eq_skeleton]
    unfold owns
    iintro ⟨⟨%f0, %hf0, H0⟩, ⟨%f1, %hf1, H1⟩, ⟨%ds0, %fs0, -, HS0⟩, Hk⟩
    obtain rfl := harg1.eq_unread hf0; obtain rfl := harg2.eq_unread hf1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

/-- Case A stores nothing into output 1 (the window is idle at its points and not written back there):
    no pieces — a placeholder (junk read back) that nothing consults, since at these points the window is neither
    written back nor read at the next point (Lib/Pipeline.lean "Idle points"). -/
def out0_A_1 (c : Dev nD) (i : grid0.Coords) (arg1 : Memref sig .tc .vmem S1x3x1x392x128 .f32) (harg1 : arg1.IsWhole) (arg2 : Memref sig .tc .vmem S9x128 .f32) (harg2 : arg2.IsWhole) (arg3 : Memref sig .tc .vmem S9x8x128 .f32) (harg3 : arg3.IsWhole) (hc0 : cond0_0 i) (hc1 : ¬cond0_1 i)
    (x0 : Vec F S1x3x1x392x128 .f32) : Vec F S9x128 .f32 :=
  VO0_1.read (Elt F) (VO0_1.writes (Elt F) VO0_1.junk (kernelRun0_A (Ix := Ix) (U := U) (Lvl := Lvl) 𝒱₀ c i arg1 harg1 arg2 harg2 arg3 harg3 hc0 hc1 x0).1)

/-- Case A's pieces for scratch `arg3`, which the kernel carries between points, cover it: one of them a store of the WHOLE buffer (Lib/Ring.lean `sl_whole_mem`). -/
theorem scover0_A_0 (c : Dev nD) (i : grid0.Coords) (arg1 : Memref sig .tc .vmem S1x3x1x392x128 .f32) (harg1 : arg1.IsWhole) (arg2 : Memref sig .tc .vmem S9x128 .f32) (harg2 : arg2.IsWhole) (arg3 : Memref sig .tc .vmem S9x8x128 .f32) (harg3 : arg3.IsWhole) (hc0 : cond0_0 i) (hc1 : ¬cond0_1 i)
    (x0 : Vec F S1x3x1x392x128 .f32) (y : S9x8x128.Idx) :
    ∃ pc ∈ (kernelRun0_A (Ix := Ix) (U := U) (Lvl := Lvl) 𝒱₀ c i arg1 harg1 arg2 harg2 arg3 harg3 hc0 hc1 x0).2.1, y ∈ pc.1.set :=
  View.cover_of_wholeMem (kernelRun0_A (Ix := Ix) (U := U) (Lvl := Lvl) 𝒱₀ c i arg1 harg1 arg2 harg2 arg3 harg3 hc0 hc1 x0).2.1 (by sl_whole_mem) y

/-- What case A leaves in scratch `arg3`: its pieces read back over junk. -/
def sout0_A_0 (c : Dev nD) (i : grid0.Coords) (arg1 : Memref sig .tc .vmem S1x3x1x392x128 .f32) (harg1 : arg1.IsWhole) (arg2 : Memref sig .tc .vmem S9x128 .f32) (harg2 : arg2.IsWhole) (arg3 : Memref sig .tc .vmem S9x8x128 .f32) (harg3 : arg3.IsWhole) (hc0 : cond0_0 i) (hc1 : ¬cond0_1 i)
    (x0 : Vec F S1x3x1x392x128 .f32) : Vec F S9x8x128 .f32 :=
  VS0_0.read (Elt F) (VS0_0.writes (Elt F) VS0_0.junk (kernelRun0_A (Ix := Ix) (U := U) (Lvl := Lvl) 𝒱₀ c i arg1 harg1 arg2 harg2 arg3 harg3 hc0 hc1 x0).2.1)

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 254: 254 of 256), WITH the
    proof that on whole staging memrefs — the inputs' at their contents, the outputs it leaves idle (1: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S1x3x1x392x128 .f32) (harg1 : arg1.IsWhole) (arg2 : Memref sig .tc .vmem S9x128 .f32) (harg2 : arg2.IsWhole) (arg3 : Memref sig .tc .vmem S9x8x128 .f32) (harg3 : arg3.IsWhole) (hc0 : ¬cond0_0 i) (hc1 : ¬cond0_1 i)
    (x0 : Vec F S1x3x1x392x128 .f32) (xs0 : Vec F S9x8x128 .f32) :
    Σ' (L1 : List (View.Piece (Elt F) S9x128 .f32)), { LS0 : List (View.Piece (Elt F) S9x8x128 .f32) //
      ∀ (xi1 : Vec F S9x128 .f32) (E : Set ℕ) (K : PUnit → sProp 𝕄),
        iprop(owns (c : Thread nD τ) arg1 fullShare x0 ∗ owns (c : Thread nD τ) arg2 fullShare xi1 ∗ owns (c : Thread nD τ) arg3 fullShare xs0
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) 𝒱₀ c none) E (cc0__moments_body i arg1 harg1 arg2 harg2 arg3 harg3) K } := by
  refine ⟨[], ?_, fun xi1 E K => ?run⟩
  case run =>
    simp only [cc0__moments_body_eq_skeleton]; unfold cc0__moments_body_skel
    simp only [k0_part1_eq_skeleton, k0_part2_eq_skeleton, k0_part3_eq_skeleton]
    unfold owns
    iintro ⟨⟨%f0, %hf0, H0⟩, ⟨%f1, %hf1, H1⟩, ⟨%fs0, %hfs0, HS0⟩, Hk⟩
    obtain rfl := harg1.eq_unread hf0; obtain rfl := harg2.eq_unread hf1; obtain rfl := harg3.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

/-- Case B stores nothing into output 1 (the window is idle at its points and not written back there):
    no pieces — a placeholder (junk read back) that nothing consults, since at these points the window is neither
    written back nor read at the next point (Lib/Pipeline.lean "Idle points"). -/
def out0_B_1 (c : Dev nD) (i : grid0.Coords) (arg1 : Memref sig .tc .vmem S1x3x1x392x128 .f32) (harg1 : arg1.IsWhole) (arg2 : Memref sig .tc .vmem S9x128 .f32) (harg2 : arg2.IsWhole) (arg3 : Memref sig .tc .vmem S9x8x128 .f32) (harg3 : arg3.IsWhole) (hc0 : ¬cond0_0 i) (hc1 : ¬cond0_1 i)
    (x0 : Vec F S1x3x1x392x128 .f32) (xs0 : Vec F S9x8x128 .f32) : Vec F S9x128 .f32 :=
  VO0_1.read (Elt F) (VO0_1.writes (Elt F) VO0_1.junk (kernelRun0_B (Ix := Ix) (U := U) (Lvl := Lvl) 𝒱₀ c i arg1 harg1 arg2 harg2 arg3 harg3 hc0 hc1 x0 xs0).1)

/-- Case B's pieces for scratch `arg3`, which the kernel carries between points, cover it: 9 pieces of `S1x8x128` tiling it (Lib/Ring.lean `Piece.tiledL`). -/
theorem scover0_B_0 (c : Dev nD) (i : grid0.Coords) (arg1 : Memref sig .tc .vmem S1x3x1x392x128 .f32) (harg1 : arg1.IsWhole) (arg2 : Memref sig .tc .vmem S9x128 .f32) (harg2 : arg2.IsWhole) (arg3 : Memref sig .tc .vmem S9x8x128 .f32) (harg3 : arg3.IsWhole) (hc0 : ¬cond0_0 i) (hc1 : ¬cond0_1 i)
    (x0 : Vec F S1x3x1x392x128 .f32) (xs0 : Vec F S9x8x128 .f32) (y : S9x8x128.Idx) :
    ∃ pc ∈ (kernelRun0_B (Ix := Ix) (U := U) (Lvl := Lvl) 𝒱₀ c i arg1 harg1 arg2 harg2 arg3 harg3 hc0 hc1 x0 xs0).2.1, y ∈ pc.1.set :=
  View.cover_of_tiledL (kernelRun0_B (Ix := Ix) (U := U) (Lvl := Lvl) 𝒱₀ c i arg1 harg1 arg2 harg2 arg3 harg3 hc0 hc1 x0 xs0).2.1 S1x8x128.size (by sl_kernel_rfl) y

/-- What case B leaves in scratch `arg3`: its pieces read back over junk. -/
def sout0_B_0 (c : Dev nD) (i : grid0.Coords) (arg1 : Memref sig .tc .vmem S1x3x1x392x128 .f32) (harg1 : arg1.IsWhole) (arg2 : Memref sig .tc .vmem S9x128 .f32) (harg2 : arg2.IsWhole) (arg3 : Memref sig .tc .vmem S9x8x128 .f32) (harg3 : arg3.IsWhole) (hc0 : ¬cond0_0 i) (hc1 : ¬cond0_1 i)
    (x0 : Vec F S1x3x1x392x128 .f32) (xs0 : Vec F S9x8x128 .f32) : Vec F S9x8x128 .f32 :=
  VS0_0.read (Elt F) (VS0_0.writes (Elt F) VS0_0.junk (kernelRun0_B (Ix := Ix) (U := U) (Lvl := Lvl) 𝒱₀ c i arg1 harg1 arg2 harg2 arg3 harg3 hc0 hc1 x0 xs0).2.1)

-- (the run's proof term is large: the definition's epilogue — `abstractNestedProofs` — walks it past the default budget)
set_option maxHeartbeats 1000000 in
/-- What the body's stores leave in each output's staging memref, as pieces (last first) IN CASE C (`scf.if` 0 not taken, `scf.if` 1 taken: points 255), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S1x3x1x392x128 .f32) (harg1 : arg1.IsWhole) (arg2 : Memref sig .tc .vmem S9x128 .f32) (harg2 : arg2.IsWhole) (arg3 : Memref sig .tc .vmem S9x8x128 .f32) (harg3 : arg3.IsWhole) (hc0 : ¬cond0_0 i) (hc1 : cond0_1 i)
    (x0 : Vec F S1x3x1x392x128 .f32) (xs0 : Vec F S9x8x128 .f32) :
    Σ' (L1 : List (View.Piece (Elt F) S9x128 .f32)), { LS0 : List (View.Piece (Elt F) S9x8x128 .f32) //
      ∀ (E : Set ℕ) (K : PUnit → sProp 𝕄),
        iprop(owns (c : Thread nD τ) arg1 fullShare x0 ∗ (∃ d, owns (c : Thread nD τ) arg2 fullShare d) ∗ owns (c : Thread nD τ) arg3 fullShare xs0
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f LS0)) -∗ K ⟨⟩))
          ⊢ wp frame (wpE (defs₀ (F := F)) 𝒱₀ c none) E (cc0__moments_body i arg1 harg1 arg2 harg2 arg3 harg3) K } := by
  refine ⟨?_, ?_, fun E K => ?run⟩
  case run =>
    simp only [cc0__moments_body_eq_skeleton]; unfold cc0__moments_body_skel
    simp only [k0_part1_eq_skeleton, k0_part2_eq_skeleton, k0_part3_eq_skeleton]
    unfold owns
    iintro ⟨⟨%f0, %hf0, H0⟩, ⟨%d1, %f1, -, H1⟩, ⟨%fs0, %hfs0, HS0⟩, Hk⟩
    obtain rfl := harg1.eq_unread hf0; obtain rfl := harg3.eq_unread hfs0
    sl_exec (disch := first | sl_exact hc0 | sl_exact hc1)
    sl_step
    iapply Hk
    isplitl [H0]
    · iexists _; isplitr; · ipureintro; exact harg1.read_unread _
      iexact H0
    isplitl [H1]; · iexists _; iexact H1
    iexists _; iexact HS0

/-- Case C's pieces for output 1 tile its block (1 store of `S9x128`, checked by the kernel's evaluation: Lib/Ring.lean `Piece.tiledL`, linear in the pieces, through a loop's `@[irreducible]` trip theorem too), so they cover it. -/
theorem cover0_C_1 (c : Dev nD) (i : grid0.Coords) (arg1 : Memref sig .tc .vmem S1x3x1x392x128 .f32) (harg1 : arg1.IsWhole) (arg2 : Memref sig .tc .vmem S9x128 .f32) (harg2 : arg2.IsWhole) (arg3 : Memref sig .tc .vmem S9x8x128 .f32) (harg3 : arg3.IsWhole) (hc0 : ¬cond0_0 i) (hc1 : cond0_1 i)
    (x0 : Vec F S1x3x1x392x128 .f32) (xs0 : Vec F S9x8x128 .f32) (y : S9x128.Idx) :
    ∃ pc ∈ (kernelRun0_C (Ix := Ix) (U := U) (Lvl := Lvl) 𝒱₀ c i arg1 harg1 arg2 harg2 arg3 harg3 hc0 hc1 x0 xs0).1, y ∈ pc.1.set :=
  View.cover_of_tiledL (kernelRun0_C (Ix := Ix) (U := U) (Lvl := Lvl) 𝒱₀ c i arg1 harg1 arg2 harg2 arg3 harg3 hc0 hc1 x0 xs0).1 S9x128.size (by sl_kernel_rfl) y

/-- What case C leaves in output 1's staging buffer: its pieces read back over junk. -/
def out0_C_1 (c : Dev nD) (i : grid0.Coords) (arg1 : Memref sig .tc .vmem S1x3x1x392x128 .f32) (harg1 : arg1.IsWhole) (arg2 : Memref sig .tc .vmem S9x128 .f32) (harg2 : arg2.IsWhole) (arg3 : Memref sig .tc .vmem S9x8x128 .f32) (harg3 : arg3.IsWhole) (hc0 : ¬cond0_0 i) (hc1 : cond0_1 i)
    (x0 : Vec F S1x3x1x392x128 .f32) (xs0 : Vec F S9x8x128 .f32) : Vec F S9x128 .f32 :=
  VO0_1.read (Elt F) (VO0_1.writes (Elt F) VO0_1.junk (kernelRun0_C (Ix := Ix) (U := U) (Lvl := Lvl) 𝒱₀ c i arg1 harg1 arg2 harg2 arg3 harg3 hc0 hc1 x0 xs0).1)

/-- Case C's pieces for scratch `arg3`, which the kernel carries between points, cover it: 9 pieces of `S1x8x128` tiling it (Lib/Ring.lean `Piece.tiledL`). -/
theorem scover0_C_0 (c : Dev nD) (i : grid0.Coords) (arg1 : Memref sig .tc .vmem S1x3x1x392x128 .f32) (harg1 : arg1.IsWhole) (arg2 : Memref sig .tc .vmem S9x128 .f32) (harg2 : arg2.IsWhole) (arg3 : Memref sig .tc .vmem S9x8x128 .f32) (harg3 : arg3.IsWhole) (hc0 : ¬cond0_0 i) (hc1 : cond0_1 i)
    (x0 : Vec F S1x3x1x392x128 .f32) (xs0 : Vec F S9x8x128 .f32) (y : S9x8x128.Idx) :
    ∃ pc ∈ (kernelRun0_C (Ix := Ix) (U := U) (Lvl := Lvl) 𝒱₀ c i arg1 harg1 arg2 harg2 arg3 harg3 hc0 hc1 x0 xs0).2.1, y ∈ pc.1.set :=
  View.cover_of_tiledL (kernelRun0_C (Ix := Ix) (U := U) (Lvl := Lvl) 𝒱₀ c i arg1 harg1 arg2 harg2 arg3 harg3 hc0 hc1 x0 xs0).2.1 S1x8x128.size (by sl_kernel_rfl) y

/-- What case C leaves in scratch `arg3`: its pieces read back over junk. -/
def sout0_C_0 (c : Dev nD) (i : grid0.Coords) (arg1 : Memref sig .tc .vmem S1x3x1x392x128 .f32) (harg1 : arg1.IsWhole) (arg2 : Memref sig .tc .vmem S9x128 .f32) (harg2 : arg2.IsWhole) (arg3 : Memref sig .tc .vmem S9x8x128 .f32) (harg3 : arg3.IsWhole) (hc0 : ¬cond0_0 i) (hc1 : cond0_1 i)
    (x0 : Vec F S1x3x1x392x128 .f32) (xs0 : Vec F S9x8x128 .f32) : Vec F S9x8x128 .f32 :=
  VS0_0.read (Elt F) (VS0_0.writes (Elt F) VS0_0.junk (kernelRun0_C (Ix := Ix) (U := U) (Lvl := Lvl) 𝒱₀ c i arg1 harg1 arg2 harg2 arg3 harg3 hc0 hc1 x0 xs0).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S9x128 .f32 × Vec F S9x8x128 .f32
  | 0, hn => (out0_A_1 (Ix := Ix) (U := U) (Lvl := Lvl) 𝒱₀ c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk V c 0 ⟨0, hn⟩), sout0_A_0 (Ix := Ix) (U := U) (Lvl := Lvl) 𝒱₀ c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk V c 0 ⟨0, hn⟩))
  | n + 1, hn =>
    if h0 : (n + 1) % 256 = 0 then
      if h1 : (n + 1) % 256 = 255 then
        False.elim (by have hN : n + 1 < 256 := lt_of_lt_of_eq hn (show cfg0.N = 256 from N_0); omega)
      else
        (out0_A_1 (Ix := Ix) (U := U) (Lvl := Lvl) 𝒱₀ c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk V c 0 ⟨n + 1, hn⟩), sout0_A_0 (Ix := Ix) (U := U) (Lvl := Lvl) 𝒱₀ c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk V c 0 ⟨n + 1, hn⟩))
    else
      if h1 : (n + 1) % 256 = 255 then
        (out0_C_1 (Ix := Ix) (U := U) (Lvl := Lvl) 𝒱₀ c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk V c 0 ⟨n + 1, hn⟩) (outsAt0 c n (Nat.lt_of_succ_lt hn)).2, sout0_C_0 (Ix := Ix) (U := U) (Lvl := Lvl) 𝒱₀ c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk V c 0 ⟨n + 1, hn⟩) (outsAt0 c n (Nat.lt_of_succ_lt hn)).2)
      else
        (out0_B_1 (Ix := Ix) (U := U) (Lvl := Lvl) 𝒱₀ c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk V c 0 ⟨n + 1, hn⟩) (outsAt0 c n (Nat.lt_of_succ_lt hn)).2, sout0_B_0 (Ix := Ix) (U := U) (Lvl := Lvl) 𝒱₀ c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk V c 0 ⟨n + 1, hn⟩) (outsAt0 c n (Nat.lt_of_succ_lt hn)).2)

/-- `outsAt0` at a point of case A: that case's contents. -/
theorem outsAt0_A (c : Dev nD) (t : Fin cfg0.N) (h0 : t.val % 256 = 0) (h1 : ¬t.val % 256 = 255) :
    outsAt0 (Ix := Ix) (U := U) (Lvl := Lvl) 𝒱₀ V c t.val t.isLt = (out0_A_1 (Ix := Ix) (U := U) (Lvl := Lvl) 𝒱₀ c (grid0.coords t) (ms0_0 t) (hs0_0 t) (ms0_1 t) (hs0_1 t) scM0_0 (Memref.isWhole_whole _) ((hcond0_0 t).mpr h0) (fun h => h1 ((hcond0_1 t).mp h)) (iblk V c 0 t), sout0_A_0 (Ix := Ix) (U := U) (Lvl := Lvl) 𝒱₀ c (grid0.coords t) (ms0_0 t) (hs0_0 t) (ms0_1 t) (hs0_1 t) scM0_0 (Memref.isWhole_whole _) ((hcond0_0 t).mpr h0) (fun h => h1 ((hcond0_1 t).mp h)) (iblk V c 0 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 256 = 0) (h1 : ¬t.val % 256 = 255) :
    outsAt0 (Ix := Ix) (U := U) (Lvl := Lvl) 𝒱₀ V c t.val t.isLt = (out0_B_1 (Ix := Ix) (U := U) (Lvl := Lvl) 𝒱₀ c (grid0.coords t) (ms0_0 t) (hs0_0 t) (ms0_1 t) (hs0_1 t) scM0_0 (Memref.isWhole_whole _) (fun h => h0 ((hcond0_0 t).mp h)) (fun h => h1 ((hcond0_1 t).mp h)) (iblk V c 0 t) (outsAt0 (Ix := Ix) (U := U) (Lvl := Lvl) 𝒱₀ V c (t.val - 1) (Nat.lt_of_le_of_lt (Nat.sub_le _ _) t.isLt)).2, sout0_B_0 (Ix := Ix) (U := U) (Lvl := Lvl) 𝒱₀ c (grid0.coords t) (ms0_0 t) (hs0_0 t) (ms0_1 t) (hs0_1 t) scM0_0 (Memref.isWhole_whole _) (fun h => h0 ((hcond0_0 t).mp h)) (fun h => h1 ((hcond0_1 t).mp h)) (iblk V c 0 t) (outsAt0 (Ix := Ix) (U := U) (Lvl := Lvl) 𝒱₀ V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 256 = 0) (h1 : t.val % 256 = 255) :
    outsAt0 (Ix := Ix) (U := U) (Lvl := Lvl) 𝒱₀ V c t.val t.isLt = (out0_C_1 (Ix := Ix) (U := U) (Lvl := Lvl) 𝒱₀ c (grid0.coords t) (ms0_0 t) (hs0_0 t) (ms0_1 t) (hs0_1 t) scM0_0 (Memref.isWhole_whole _) (fun h => h0 ((hcond0_0 t).mp h)) ((hcond0_1 t).mpr h1) (iblk V c 0 t) (outsAt0 (Ix := Ix) (U := U) (Lvl := Lvl) 𝒱₀ V c (t.val - 1) (Nat.lt_of_le_of_lt (Nat.sub_le _ _) t.isLt)).2, sout0_C_0 (Ix := Ix) (U := U) (Lvl := Lvl) 𝒱₀ c (grid0.coords t) (ms0_0 t) (hs0_0 t) (ms0_1 t) (hs0_1 t) scM0_0 (Memref.isWhole_whole _) (fun h => h0 ((hcond0_0 t).mp h)) ((hcond0_1 t).mpr h1) (iblk V c 0 t) (outsAt0 (Ix := Ix) (U := U) (Lvl := Lvl) 𝒱₀ V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => ΦK (F := F) (Ix := Ix) (U := U) (Lvl := Lvl) c
  | n + 1, hn => iprop(iprop(owns (c : Thread nD τ) scM0_0 fullShare ((outsAt0 (Ix := Ix) (U := U) (Lvl := Lvl) 𝒱₀ V c n hn).2) ∗ Pipeline.scopedRestBut (Ix := Ix) (Name := ℕ) (U := U) (Lvl := Lvl) (Val := Elt F) spec0 c [cc0_scratch0]) ∗ (∃ r, prngReg c r))

theorem PhiS_zero (c : Dev nD) (n : ℕ) (h : n ≤ cfg0.N) (hz : n = 0) : PhiS (Ix := Ix) (U := U) (Lvl := Lvl) 𝒱₀ V c n h = ΦK (F := F) (Ix := Ix) (U := U) (Lvl := Lvl) c := by
  subst hz; rfl

/-- After point `n` (before point `n + 1`): the carried scratch at that point's contents. -/
theorem PhiS_succ (c : Dev nD) (n : ℕ) (hn : n < cfg0.N) :
    PhiS (Ix := Ix) (U := U) (Lvl := Lvl) 𝒱₀ V c (n + 1) hn = iprop(iprop(owns (c : Thread nD τ) scM0_0 fullShare ((outsAt0 (Ix := Ix) (U := U) (Lvl := Lvl) 𝒱₀ V c n hn).2) ∗ Pipeline.scopedRestBut (Ix := Ix) (Name := ℕ) (U := U) (Lvl := Lvl) (Val := Elt F) spec0 c [cc0_scratch0]) ∗ (∃ r, prngReg c r)) := rfl

/-- Before a point that is not the first: the carried scratch at what the point before left. -/
theorem PhiS_pos (c : Dev nD) (n : ℕ) (h : n ≤ cfg0.N) (hz : n ≠ 0) :
    PhiS (Ix := Ix) (U := U) (Lvl := Lvl) 𝒱₀ V c n h = iprop(iprop(owns (c : Thread nD τ) scM0_0 fullShare ((outsAt0 (Ix := Ix) (U := U) (Lvl := Lvl) 𝒱₀ V c (n - 1) (by omega)).2) ∗ Pipeline.scopedRestBut (Ix := Ix) (Name := ℕ) (U := U) (Lvl := Lvl) (Val := Elt F) spec0 c [cc0_scratch0]) ∗ (∃ r, prngReg c r)) := by
  cases n with
  | zero => exact absurd rfl hz
  | succ n => rfl

/-! ## The pipeline's proof data -/

/-- The proof data of pipeline 0 on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dat (c : Dev nD) : Dat τ (Elt F) Ix ℕ U Lvl cfg0 c where
  A w := V c (Pipeline.arrRef spec0 w)
  after w t := match w with
    | ⟨0, _⟩ => iblk V c 0 t
    | ⟨1, _⟩ => (outsAt0 (Ix := Ix) (U := U) (Lvl := Lvl) 𝒱₀ V c t.val t.isLt).1
  Φ t := PhiS (Ix := Ix) (U := U) (Lvl := Lvl) 𝒱₀ V c t.val (Nat.le_of_lt_succ t.isLt)
  q _ := fullShare
  owed _ := D c

variable (ι : Ix)

local notation "𝕕" => dat (Ix := Ix) (U := U) (Lvl := Lvl) 𝒱₀ V D

/-- The proof data's arrays are the region-entry contents `V`: the proof data's definition projected (`dsimp`). -/
theorem A_eq (c : Dev nD) (w : Fin cfg0.W) : (𝕕 c).A w = V c (Pipeline.arrRef spec0 w) := by
  dsimp only [dat]

/-- The invariant at a point's start (the proof data at `t.castSucc`), restated at `t.val`. -/
theorem PhiS_castSucc (c : Dev nD) (t : Fin cfg0.N) :
    (𝕕 c).Φ t.castSucc = PhiS (Ix := Ix) (U := U) (Lvl := Lvl) 𝒱₀ V c t.val (Nat.le_of_lt t.isLt) := by
  dsimp only [dat]; exact Pipeline.Dat.Φ_castSucc (PhiS (Ix := Ix) (U := U) (Lvl := Lvl) 𝒱₀ V c) t

/-- What the body leaves, window by window (the proof data's `match` reduced by `dsimp`). -/
theorem after0_0 (c : Dev nD) (t : Fin cfg0.N) : (𝕕 c).after 0 t = iblk V c 0 t := by dsimp only [dat]
theorem after0_1 (c : Dev nD) (t : Fin cfg0.N) : (𝕕 c).after 1 t = (outsAt0 (Ix := Ix) (U := U) (Lvl := Lvl) 𝒱₀ V c t.val t.isLt).1 := by dsimp only [dat]

/-- Each input's current staging buffer holds its block at every point, fetched there or not (`beforeK_W_of`). -/
theorem before0_0 (c : Dev nD) (t : Fin cfg0.N) (d) : (𝕕 c).before 0 t d = iblk V c 0 t :=
  before0_0_of V (𝕕 c) (A_eq 𝒱₀ V D c 0) (after0_0 𝒱₀ V D c) t d

/-! ## The body obligation, at a generic point -/

/-- What the body is called with at point `t` (Lib/Pipeline.lean `BodyObligation`'s precondition, the windows one by one), -/
def bodyPre (c : Dev nD) (t : Fin cfg0.N) : sProp 𝕄 :=
  iprop((𝕕 c).Φ t.castSucc ∗ (𝕕 c).owesAt ι t.castSucc
    ∗ (∃ d, owns (c : Thread nD τ) (ms0_0 t) fullShare ((𝕕 c).before 0 t d))
    ∗ (∃ d, owns (c : Thread nD τ) (ms0_1 t) fullShare ((𝕕 c).before 1 t d)))

/-- and what it returns. -/
def bodyPost (c : Dev nD) (t : Fin cfg0.N) : sProp 𝕄 :=
  iprop((𝕕 c).Φ t.succ ∗ (𝕕 c).owesAt ι t.succ
    ∗ (𝕕 c).leavesExact 0 t
    ∗ (𝕕 c).leavesExact 1 t)

set_option maxHeartbeats 4800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes `D c` throughout. -/
theorem sound_body (c : Dev nD) (t : Fin cfg0.N) :
    bodyPre (U := U) (Lvl := Lvl) 𝒱₀ V D ι c t ⊢ wp frame (wpE (defs₀ (F := F)) 𝒱₀ c none) Set.univ (bodyAt0 t) (fun _ => bodyPost (U := U) (Lvl := Lvl) 𝒱₀ V D ι c t) := by
  unfold bodyPre bodyPost bodyAt0
  simp only [before0_0]
  rw [show (𝕕 c).owesAt ι t.succ = (𝕕 c).owesAt ι t.castSucc from rfl]
  rw [show (𝕕 c).Φ t.succ = PhiS (Ix := Ix) (U := U) (Lvl := Lvl) 𝒱₀ V c (t.val + 1) t.isLt from rfl, PhiS_succ]
  have hN : t.val < 256 := lt_of_lt_of_eq t.isLt (show cfg0.N = 256 from N_0)
  by_cases h0 : t.val % 256 = 0
  · by_cases h1 : t.val % 256 = 255
    · exfalso; omega
    · rw [show (𝕕 c).leavesExact 0 t = owns (c : Thread nD τ) (ms0_0 t) fullShare ((𝕕 c).after 0 t) from by
      unfold Dat.leavesExact; rw [liveAt0_0 t], after0_0]
      rw [Dat.leavesExact_idle (𝕕 c) 1 t (idleAt0_1_A t ((hcond0_0 t).mpr h0) (fun h => h1 ((hcond0_1 t).mp h))) (noFlush0_1_A t ((hcond0_0 t).mpr h0) (fun h => h1 ((hcond0_1 t).mp h)))]
      by_cases hz : t.val = 0
      · rw [PhiS_castSucc 𝒱₀ V D c t, PhiS_zero 𝒱₀ V c _ _ hz, PhiA0_eq]
        rw [outsAt0_A 𝒱₀ V c t h0 h1]
        unfold sout0_A_0; (try dsimp only)
        iintro ⟨⟨⟨HS0, HR⟩, Hg⟩, Ho, ⟨%d0, H0⟩, ⟨%d1, H1⟩⟩
        iapply ((kernelRun0_A (Ix := Ix) (U := U) (Lvl := Lvl) 𝒱₀ c (grid0.coords t) _ _ _ _ _ _ ((hcond0_0 t).mpr h0) (fun h => h1 ((hcond0_1 t).mp h)) (iblk V c 0 t)).2.2 _ Set.univ _)
        isplitl [H0]; · iexact H0
        isplitl [H1]; · iexact H1
        isplitl [HS0]; · iexact HS0
        iintro ⟨H0, H1, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 (Ix := Ix) (U := U) (Lvl := Lvl) 𝒱₀ c _ _ _ _ _ _ _ _ _ _)
            iexact HR
          iexact Hg
        isplitl [Ho]; · iexact Ho
        isplitl [H0]; · iexact H0
        iexists _; iexact H1
      · exfalso; have hN : t.val < 256 := lt_of_lt_of_eq t.isLt (show cfg0.N = 256 from N_0); omega
  · by_cases h1 : t.val % 256 = 255
    · rw [show (𝕕 c).leavesExact 0 t = owns (c : Thread nD τ) (ms0_0 t) fullShare ((𝕕 c).after 0 t) from by
      unfold Dat.leavesExact; rw [liveAt0_0 t], after0_0]
      rw [show (𝕕 c).leavesExact 1 t = owns (c : Thread nD τ) (ms0_1 t) fullShare ((𝕕 c).after 1 t) from by
      unfold Dat.leavesExact; rw [liveAt0_1_C t (fun h => h0 ((hcond0_0 t).mp h)) ((hcond0_1 t).mpr h1)], after0_1]
      by_cases hz : t.val = 0
      · exfalso; have hN : t.val < 256 := lt_of_lt_of_eq t.isLt (show cfg0.N = 256 from N_0); omega
      · rw [PhiS_castSucc 𝒱₀ V D c t, PhiS_pos 𝒱₀ V c _ _ hz]
        rw [outsAt0_C 𝒱₀ V c t h0 h1]
        unfold out0_C_1 sout0_C_0; (try dsimp only)
        iintro ⟨⟨⟨HS0, HR⟩, Hg⟩, Ho, ⟨%d0, H0⟩, ⟨%d1, H1⟩⟩
        iapply ((kernelRun0_C (Ix := Ix) (U := U) (Lvl := Lvl) 𝒱₀ c (grid0.coords t) _ _ _ _ _ _ (fun h => h0 ((hcond0_0 t).mp h)) ((hcond0_1 t).mpr h1) (iblk V c 0 t) _).2.2 Set.univ _)
        isplitl [H0]; · iexact H0
        isplitl [H1]; · iexists _; iexact H1
        isplitl [HS0]; · iexact HS0
        iintro ⟨H0, ⟨%e1, H1⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_C_0 (Ix := Ix) (U := U) (Lvl := Lvl) 𝒱₀ c _ _ _ _ _ _ _ _ _ _ _)
            iexact HR
          iexact Hg
        isplitl [Ho]; · iexact Ho
        isplitl [H0]; · iexact H0
        unfold owns; iexists _; isplitr
        swap; · iexact H1
        ipureintro; exact View.read_writes_of_cover _ _ _ _ _ (cover0_C_1 (Ix := Ix) (U := U) (Lvl := Lvl) 𝒱₀ c _ _ _ _ _ _ _ _ _ _ _)
    · rw [show (𝕕 c).leavesExact 0 t = owns (c : Thread nD τ) (ms0_0 t) fullShare ((𝕕 c).after 0 t) from by
      unfold Dat.leavesExact; rw [liveAt0_0 t], after0_0]
      rw [Dat.leavesExact_idle (𝕕 c) 1 t (idleAt0_1_B t (fun h => h0 ((hcond0_0 t).mp h)) (fun h => h1 ((hcond0_1 t).mp h))) (noFlush0_1_B t (fun h => h0 ((hcond0_0 t).mp h)) (fun h => h1 ((hcond0_1 t).mp h)))]
      by_cases hz : t.val = 0
      · exfalso; have hN : t.val < 256 := lt_of_lt_of_eq t.isLt (show cfg0.N = 256 from N_0); omega
      · rw [PhiS_castSucc 𝒱₀ V D c t, PhiS_pos 𝒱₀ V c _ _ hz]
        rw [outsAt0_B 𝒱₀ V c t h0 h1]
        unfold sout0_B_0; (try dsimp only)
        iintro ⟨⟨⟨HS0, HR⟩, Hg⟩, Ho, ⟨%d0, H0⟩, ⟨%d1, H1⟩⟩
        iapply ((kernelRun0_B (Ix := Ix) (U := U) (Lvl := Lvl) 𝒱₀ c (grid0.coords t) _ _ _ _ _ _ (fun h => h0 ((hcond0_0 t).mp h)) (fun h => h1 ((hcond0_1 t).mp h)) (iblk V c 0 t) _).2.2 _ Set.univ _)
        isplitl [H0]; · iexact H0
        isplitl [H1]; · iexact H1
        isplitl [HS0]; · iexact HS0
        iintro ⟨H0, H1, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_B_0 (Ix := Ix) (U := U) (Lvl := Lvl) 𝒱₀ c _ _ _ _ _ _ _ _ _ _ _)
            iexact HR
          iexact Hg
        isplitl [Ho]; · iexact Ho
        isplitl [H0]; · iexact H0
        iexists _; iexact H1

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (𝕕 c) (defs₀ (F := F)) 𝒱₀ ι Set.univ := fun t => by
  rw [bigSep_W0, bigSep_W0, defs₀_row]
  exact triple_restated (sound_body (U := U) (Lvl := Lvl) 𝒱₀ V D ι c t) rfl .rfl fun _ => .rfl

/-- What the launch hands the region (`ΦA`) is the invariant before the first point. -/
theorem hin (c : Dev nD) : ΦK (F := F) (Ix := Ix) (U := U) (Lvl := Lvl) c ⊢ (𝕕 c).Φ 0 := by
  rw [show (𝕕 c).Φ 0 = PhiS (Ix := Ix) (U := U) (Lvl := Lvl) 𝒱₀ V c 0 (Nat.zero_le _) from rfl, PhiS_zero 𝒱₀ V c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (𝕕 c).Φ t ⊢ ΦK (F := F) (Ix := Ix) (U := U) (Lvl := Lvl) c := by
  rw [show (𝕕 c).Φ t = PhiS (Ix := Ix) (U := U) (Lvl := Lvl) 𝒱₀ V c t.val (Nat.le_of_lt_succ t.isLt) from rfl, PhiS_pos 𝒱₀ V c _ _ ht, PhiA0_eq]
  iintro ⟨⟨HS0, HR⟩, Hg⟩
  isplitl [HS0 HR]
  · isplitl [HS0]
    · iexists _; iexact HS0
    iexact HR
  iexact Hg

/-- The same after the last point. -/
theorem hout (c : Dev nD) : (𝕕 c).Φ (Fin.last cfg0.N) ⊢ ΦK (F := F) (Ix := Ix) (U := U) (Lvl := Lvl) c :=
  Phi_out 𝒱₀ V D c _ (by rw [Fin.val_last]; have : cfg0.N = 256 := N_0; omega)

end Cert.KernelIdeal.Calls.K0

end
-- ==== Proof.K3Frame.lean ====
/- Custom call 3 (the gather, its block of `x` chosen by the prefetched table of frame numbers), at any admissible table `a`: the
   body's run, what the output holds after each point, the proof data and the body obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Exec
public import Idealize.ShloMosaic.Lib.Pipeline.Kit

@[expose] public section

noncomputable section

namespace Cert.KernelIdeal.Calls.K3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

variable (𝒱₀ : Variants) (a : (pcfg3 (F := F)).Adm) (V : (c : Dev nD) → (b : Ref sig .tc) → Buf (Elt F) ((c : Thread nD τ).loc b)) (D : Dev nD → CellTallies nD τ sig Ix)

/-- The region's invariant on core `c`: the library's `Pipeline.ΦA spec3 c` at any index and level type. -/
def ΦK (c : Dev nD) : sProp 𝕄 :=
  iprop(Pipeline.scopedRest (Ix := Ix) (Name := ℕ) (U := U) (Lvl := Lvl) (Val := Elt F) spec3 c ∗ ∃ r, prngReg c r)

/-- The kernel body at point `t`, on what the pipeline calls it with. -/
abbrev bodyAt3 (t : Fin (cfg3 a).N) : Prog (TpuEff nD τ sig (Elt F) Λ₀ .tc) PUnit :=
  cc3__gather_body (grid3.coords t) (Memref.whole main_v214) (Memref.isWhole_whole _) (spec3_0.stage ((cfg3 a).slots t 0)) (hstage3_0 (((cfg3 a).slots t 0).cast nbuf3_0)) (spec3_1.stage ((cfg3 a).slots t 1)) (hstage3_1 (((cfg3 a).slots t 1).cast nbuf3_1)) (spec3_2.stage ((cfg3 a).slots t 2)) (hstage3_2 (((cfg3 a).slots t 2).cast nbuf3_2)) (spec3_3.stage ((cfg3 a).slots t 3)) (hstage3_3 (((cfg3 a).slots t 3).cast nbuf3_3)) (spec3_4.stage ((cfg3 a).slots t 4)) (hstage3_4 (((cfg3 a).slots t 4).cast nbuf3_4)) (spec3_5.stage ((cfg3 a).slots t 5)) (hstage3_5 (((cfg3 a).slots t 5).cast nbuf3_5)) (spec3_6.stage ((cfg3 a).slots t 6)) (hstage3_6 (((cfg3 a).slots t 6).cast nbuf3_6)) (spec3_7.stage ((cfg3 a).slots t 7)) (hstage3_7 (((cfg3 a).slots t 7).cast nbuf3_7))

/-! ## The prefetched table -/

/-- The table as the body is handed it: its whole buffer as a memref, and that memref's wholeness. -/
abbrev tbM3_0 : Memref sig .tc .smem S4x16 .i32 := Memref.whole main_v214
abbrev htbM3_0 : tbM3_0.IsWhole := Memref.isWhole_whole _
/-- A table memref's buffer on core `c`: its contents type, and it held whole at `f`. -/
abbrev TbBuf3 (c : Dev nD) {S : Shape} {e : EltTy} (M : Memref sig .tc .smem S e) : Type := Buf (Elt F) (M.view.loc (c : Thread nD τ))
abbrev tbPt3 (c : Dev nD) {S : Shape} {e : EltTy} (M : Memref sig .tc .smem S e) (f : TbBuf3 (F := F) c M) : sProp 𝕄 :=
  M.view.loc (c : Thread nD τ) ↦{fullShare} f
/-- The tables the region holds, which are one table. -/
theorem tables_eq (c : Dev nD) : (Pipeline.prefHeld pre3 c (fun _ => fullShare) a.1 : sProp 𝕄) = iprop(tbPt3 c tbM3_0 (a.1 0)) := by
  unfold Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (c : Dev nD) (w : Fin (cfg3 a).W) (t : Fin (cfg3 a).N) : (((cfg3 a).win w).xblock ((cfg3 a).grid.coords t)).Idx → Elt F ((cfg3 a).win w).elt :=
  (((cfg3 a).win w).blk t).view.read (Elt F) (V c (Pipeline.arrRef spec3 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_0_of {c : Dev nD} (dat : Dat τ (Elt F) Ix ℕ U Lvl (cfg3 a) c) (hA : dat.A 0 = V c (Pipeline.arrRef spec3 0))
    (hafter : ∀ t, dat.after 0 t = iblk a V c 0 t) (t : Fin (cfg3 a).N) (d) : dat.before 0 t d = iblk a V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_1_of {c : Dev nD} (dat : Dat τ (Elt F) Ix ℕ U Lvl (cfg3 a) c) (hA : dat.A 1 = V c (Pipeline.arrRef spec3 1))
    (hafter : ∀ t, dat.after 1 t = iblk a V c 1 t) (t : Fin (cfg3 a).N) (d) : dat.before 1 t d = iblk a V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_2_of {c : Dev nD} (dat : Dat τ (Elt F) Ix ℕ U Lvl (cfg3 a) c) (hA : dat.A 2 = V c (Pipeline.arrRef spec3 2))
    (hafter : ∀ t, dat.after 2 t = iblk a V c 2 t) (t : Fin (cfg3 a).N) (d) : dat.before 2 t d = iblk a V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_3_of {c : Dev nD} (dat : Dat τ (Elt F) Ix ℕ U Lvl (cfg3 a) c) (hA : dat.A 3 = V c (Pipeline.arrRef spec3 3))
    (hafter : ∀ t, dat.after 3 t = iblk a V c 3 t) (t : Fin (cfg3 a).N) (d) : dat.before 3 t d = iblk a V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_4_of {c : Dev nD} (dat : Dat τ (Elt F) Ix ℕ U Lvl (cfg3 a) c) (hA : dat.A 4 = V c (Pipeline.arrRef spec3 4))
    (hafter : ∀ t, dat.after 4 t = iblk a V c 4 t) (t : Fin (cfg3 a).N) (d) : dat.before 4 t d = iblk a V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_5_of {c : Dev nD} (dat : Dat τ (Elt F) Ix ℕ U Lvl (cfg3 a) c) (hA : dat.A 5 = V c (Pipeline.arrRef spec3 5))
    (hafter : ∀ t, dat.after 5 t = iblk a V c 5 t) (t : Fin (cfg3 a).N) (d) : dat.before 5 t d = iblk a V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_6_of {c : Dev nD} (dat : Dat τ (Elt F) Ix ℕ U Lvl (cfg3 a) c) (hA : dat.A 6 = V c (Pipeline.arrRef spec3 6))
    (hafter : ∀ t, dat.after 6 t = iblk a V c 6 t) (t : Fin (cfg3 a).N) (d) : dat.before 6 t d = iblk a V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The kernel body on any staging memrefs: a subtype the run finds -/

/-- One staging buffer of output window 7, through which its contents are stated (`View.read_writes_of_cover`: the
    choice does not matter). -/
abbrev VO3_7 : View sig .tc .vmem S1x4x1x392x128 .f32 := (Memref.whole cc3_stg7_0 : Memref sig .tc .vmem S1x4x1x392x128 .f32).view
/-- Each window's current staging memref at point `t`, spelled as the pipeline passes it (`bodyAt3`), and its wholeness. -/
abbrev ms3_0 (t : Fin (cfg3 a).N) : Memref sig .tc .vmem S1x3x1x392x128 .f32 := spec3_0.stage ((cfg3 a).slots t 0)
abbrev hs3_0 (t : Fin (cfg3 a).N) : (ms3_0 a t).IsWhole := hstage3_0 (((cfg3 a).slots t 0).cast nbuf3_0)
abbrev ms3_1 (t : Fin (cfg3 a).N) : Memref sig .tc .smem S4x16 .f32 := spec3_1.stage ((cfg3 a).slots t 1)
abbrev hs3_1 (t : Fin (cfg3 a).N) : (ms3_1 a t).IsWhole := hstage3_1 (((cfg3 a).slots t 1).cast nbuf3_1)
abbrev ms3_2 (t : Fin (cfg3 a).N) : Memref sig .tc .smem S12 .f32 := spec3_2.stage ((cfg3 a).slots t 2)
abbrev hs3_2 (t : Fin (cfg3 a).N) : (ms3_2 a t).IsWhole := hstage3_2 (((cfg3 a).slots t 2).cast nbuf3_2)
abbrev ms3_3 (t : Fin (cfg3 a).N) : Memref sig .tc .smem S4 .f32 := spec3_3.stage ((cfg3 a).slots t 3)
abbrev hs3_3 (t : Fin (cfg3 a).N) : (ms3_3 a t).IsWhole := hstage3_3 (((cfg3 a).slots t 3).cast nbuf3_3)
abbrev ms3_4 (t : Fin (cfg3 a).N) : Memref sig .tc .smem S4 .f32 := spec3_4.stage ((cfg3 a).slots t 4)
abbrev hs3_4 (t : Fin (cfg3 a).N) : (ms3_4 a t).IsWhole := hstage3_4 (((cfg3 a).slots t 4).cast nbuf3_4)
abbrev ms3_5 (t : Fin (cfg3 a).N) : Memref sig .tc .smem S4 .f32 := spec3_5.stage ((cfg3 a).slots t 5)
abbrev hs3_5 (t : Fin (cfg3 a).N) : (ms3_5 a t).IsWhole := hstage3_5 (((cfg3 a).slots t 5).cast nbuf3_5)
abbrev ms3_6 (t : Fin (cfg3 a).N) : Memref sig .tc .smem S4 .f32 := spec3_6.stage ((cfg3 a).slots t 6)
abbrev hs3_6 (t : Fin (cfg3 a).N) : (ms3_6 a t).IsWhole := hstage3_6 (((cfg3 a).slots t 6).cast nbuf3_6)
abbrev ms3_7 (t : Fin (cfg3 a).N) : Memref sig .tc .vmem S1x4x1x392x128 .f32 := spec3_7.stage ((cfg3 a).slots t 7)
abbrev hs3_7 (t : Fin (cfg3 a).N) : (ms3_7 a t).IsWhole := hstage3_7 (((cfg3 a).slots t 7).cast nbuf3_7)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun3_A (c : Dev nD) (i : grid3.Coords) (arg3 : Memref sig .tc .vmem S1x3x1x392x128 .f32) (harg3 : arg3.IsWhole) (arg4 : Memref sig .tc .smem S4x16 .f32) (harg4 : arg4.IsWhole) (arg5 : Memref sig .tc .smem S12 .f32) (harg5 : arg5.IsWhole) (arg6 : Memref sig .tc .smem S4 .f32) (harg6 : arg6.IsWhole) (arg7 : Memref sig .tc .smem S4 .f32) (harg7 : arg7.IsWhole) (arg8 : Memref sig .tc .smem S4 .f32) (harg8 : arg8.IsWhole) (arg9 : Memref sig .tc .smem S4 .f32) (harg9 : arg9.IsWhole) (arg10 : Memref sig .tc .vmem S1x4x1x392x128 .f32) (harg10 : arg10.IsWhole)
    (x0 : Vec F S1x3x1x392x128 .f32) (x1 : Vec F S4x16 .f32) (x2 : Vec F S12 .f32) (x3 : Vec F S4 .f32) (x4 : Vec F S4 .f32) (x5 : Vec F S4 .f32) (x6 : Vec F S4 .f32) (xt0 : TbBuf3 (F := F) c tbM3_0) :
    { L7 : List (View.Piece (Elt F) S1x4x1x392x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ tbPt3 c tbM3_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7) ∗ tbPt3 c tbM3_0 xt0) -∗ K ⟨⟩))
          ⊢ wp frame (wpE (defs₀ (F := F)) 𝒱₀ c none) E (cc3__gather_body i tbM3_0 htbM3_0 arg3 harg3 arg4 harg4 arg5 harg5 arg6 harg6 arg7 harg7 arg8 harg8 arg9 harg9 arg10 harg10) K } := by
  refine ⟨?_, fun E K => ?run⟩
  case run =>
    simp only [cc3__gather_body_eq_skeleton]; unfold cc3__gather_body_skel
    simp only [k3_part1_eq_skeleton, k3_part2_eq_skeleton, k3_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    iexact HT0

/-- The run's pieces for output 7 tile its block (4 stores of `S1x1x1x392x128`, checked by the kernel's evaluation: Lib/Ring.lean `Piece.tiledL`, linear in the pieces, through a loop's `@[irreducible]` trip theorem too), so they cover it. -/
theorem cover3_A_7 (c : Dev nD) (i : grid3.Coords) (arg3 : Memref sig .tc .vmem S1x3x1x392x128 .f32) (harg3 : arg3.IsWhole) (arg4 : Memref sig .tc .smem S4x16 .f32) (harg4 : arg4.IsWhole) (arg5 : Memref sig .tc .smem S12 .f32) (harg5 : arg5.IsWhole) (arg6 : Memref sig .tc .smem S4 .f32) (harg6 : arg6.IsWhole) (arg7 : Memref sig .tc .smem S4 .f32) (harg7 : arg7.IsWhole) (arg8 : Memref sig .tc .smem S4 .f32) (harg8 : arg8.IsWhole) (arg9 : Memref sig .tc .smem S4 .f32) (harg9 : arg9.IsWhole) (arg10 : Memref sig .tc .vmem S1x4x1x392x128 .f32) (harg10 : arg10.IsWhole)
    (x0 : Vec F S1x3x1x392x128 .f32) (x1 : Vec F S4x16 .f32) (x2 : Vec F S12 .f32) (x3 : Vec F S4 .f32) (x4 : Vec F S4 .f32) (x5 : Vec F S4 .f32) (x6 : Vec F S4 .f32) (xt0 : TbBuf3 (F := F) c tbM3_0) (y : S1x4x1x392x128.Idx) :
    ∃ pc ∈ (kernelRun3_A (Ix := Ix) (U := U) (Lvl := Lvl) 𝒱₀ c i arg3 harg3 arg4 harg4 arg5 harg5 arg6 harg6 arg7 harg7 arg8 harg8 arg9 harg9 arg10 harg10 x0 x1 x2 x3 x4 x5 x6 xt0).1, y ∈ pc.1.set :=
  View.cover_of_tiledL (kernelRun3_A (Ix := Ix) (U := U) (Lvl := Lvl) 𝒱₀ c i arg3 harg3 arg4 harg4 arg5 harg5 arg6 harg6 arg7 harg7 arg8 harg8 arg9 harg9 arg10 harg10 x0 x1 x2 x3 x4 x5 x6 xt0).1 S1x1x1x392x128.size (by sl_kernel_rfl) y

/-- What the run leaves in output 7's staging buffer: its pieces read back over junk. -/
def out3_A_7 (c : Dev nD) (i : grid3.Coords) (arg3 : Memref sig .tc .vmem S1x3x1x392x128 .f32) (harg3 : arg3.IsWhole) (arg4 : Memref sig .tc .smem S4x16 .f32) (harg4 : arg4.IsWhole) (arg5 : Memref sig .tc .smem S12 .f32) (harg5 : arg5.IsWhole) (arg6 : Memref sig .tc .smem S4 .f32) (harg6 : arg6.IsWhole) (arg7 : Memref sig .tc .smem S4 .f32) (harg7 : arg7.IsWhole) (arg8 : Memref sig .tc .smem S4 .f32) (harg8 : arg8.IsWhole) (arg9 : Memref sig .tc .smem S4 .f32) (harg9 : arg9.IsWhole) (arg10 : Memref sig .tc .vmem S1x4x1x392x128 .f32) (harg10 : arg10.IsWhole)
    (x0 : Vec F S1x3x1x392x128 .f32) (x1 : Vec F S4x16 .f32) (x2 : Vec F S12 .f32) (x3 : Vec F S4 .f32) (x4 : Vec F S4 .f32) (x5 : Vec F S4 .f32) (x6 : Vec F S4 .f32) (xt0 : TbBuf3 (F := F) c tbM3_0) : Vec F S1x4x1x392x128 .f32 :=
  VO3_7.read (Elt F) (VO3_7.writes (Elt F) VO3_7.junk (kernelRun3_A (Ix := Ix) (U := U) (Lvl := Lvl) 𝒱₀ c i arg3 harg3 arg4 harg4 arg5 harg5 arg6 harg6 arg7 harg7 arg8 harg8 arg9 harg9 arg10 harg10 x0 x1 x2 x3 x4 x5 x6 xt0).1)

/-! ## What the outputs hold after each point -/

/-- What the outputs' staging buffers hold after the body at point `t`: the run's contents at
    the point's memrefs and input blocks. -/
def outsAt3 (c : Dev nD) (t : Fin (cfg3 a).N) : Vec F S1x4x1x392x128 .f32 :=
  out3_A_7 (Ix := Ix) (U := U) (Lvl := Lvl) 𝒱₀ c (grid3.coords t) (ms3_0 a t) (hs3_0 a t) (ms3_1 a t) (hs3_1 a t) (ms3_2 a t) (hs3_2 a t) (ms3_3 a t) (hs3_3 a t) (ms3_4 a t) (hs3_4 a t) (ms3_5 a t) (hs3_5 a t) (ms3_6 a t) (hs3_6 a t) (ms3_7 a t) (hs3_7 a t) (iblk a V c 0 t) (iblk a V c 1 t) (iblk a V c 2 t) (iblk a V c 3 t) (iblk a V c 4 t) (iblk a V c 5 t) (iblk a V c 6 t) (a.1 0)

/-! ## The pipeline's proof data -/

/-- The proof data of pipeline 3 on core `c`: the arrays as the region finds them (`V`); after the body at
    point `t` each input's buffer at its block and the outputs' at `outsAt3`; the invariant the class's
    (Lib/Pipeline/Frame.lean `ΦA`: the scoped rest and the generator register) and the tables' halves (`ΦT`); nothing owed;
    full shares. -/
def dat (c : Dev nD) : Dat τ (Elt F) Ix ℕ U Lvl (cfg3 a) c where
  A w := V c (Pipeline.arrRef spec3 w)
  after w t := match w with
    | ⟨0, _⟩ => iblk a V c 0 t
    | ⟨1, _⟩ => iblk a V c 1 t
    | ⟨2, _⟩ => iblk a V c 2 t
    | ⟨3, _⟩ => iblk a V c 3 t
    | ⟨4, _⟩ => iblk a V c 4 t
    | ⟨5, _⟩ => iblk a V c 5 t
    | ⟨6, _⟩ => iblk a V c 6 t
    | ⟨7, _⟩ => (outsAt3 (Ix := Ix) (U := U) (Lvl := Lvl) 𝒱₀ a V c t)
  Φ _ := iprop(ΦK (F := F) (Ix := Ix) (U := U) (Lvl := Lvl) c ∗ Pipeline.prefHeld pre3 c (fun _ => fullShare) a.1)
  q _ := fullShare
  owed _ := D c

variable (ι : Ix)

local notation "𝕕" => dat (Ix := Ix) (U := U) (Lvl := Lvl) 𝒱₀ a V D

/-- The proof data's arrays are the region-entry contents `V`: the proof data's definition projected (`dsimp`). -/
theorem A_eq (c : Dev nD) (w : Fin (cfg3 a).W) : (𝕕 c).A w = V c (Pipeline.arrRef spec3 w) := by
  dsimp only [dat]

/-- What the body leaves, window by window (the proof data's `match` reduced by `dsimp`). -/
theorem after3_0 (c : Dev nD) (t : Fin (cfg3 a).N) : (𝕕 c).after 0 t = iblk a V c 0 t := by dsimp only [dat]; try rfl
theorem after3_1 (c : Dev nD) (t : Fin (cfg3 a).N) : (𝕕 c).after 1 t = iblk a V c 1 t := by dsimp only [dat]; try rfl
theorem after3_2 (c : Dev nD) (t : Fin (cfg3 a).N) : (𝕕 c).after 2 t = iblk a V c 2 t := by dsimp only [dat]; try rfl
theorem after3_3 (c : Dev nD) (t : Fin (cfg3 a).N) : (𝕕 c).after 3 t = iblk a V c 3 t := by dsimp only [dat]; try rfl
theorem after3_4 (c : Dev nD) (t : Fin (cfg3 a).N) : (𝕕 c).after 4 t = iblk a V c 4 t := by dsimp only [dat]; try rfl
theorem after3_5 (c : Dev nD) (t : Fin (cfg3 a).N) : (𝕕 c).after 5 t = iblk a V c 5 t := by dsimp only [dat]; try rfl
theorem after3_6 (c : Dev nD) (t : Fin (cfg3 a).N) : (𝕕 c).after 6 t = iblk a V c 6 t := by dsimp only [dat]; try rfl
theorem after3_7 (c : Dev nD) (t : Fin (cfg3 a).N) : (𝕕 c).after 7 t = (outsAt3 (Ix := Ix) (U := U) (Lvl := Lvl) 𝒱₀ a V c t) := by dsimp only [dat]; try rfl

/-- Each input's current staging buffer holds its block at every point, fetched there or not (`beforeK_W_of`). -/
theorem before3_0 (c : Dev nD) (t : Fin (cfg3 a).N) (d) : (𝕕 c).before 0 t d = iblk a V c 0 t :=
  before3_0_of a V (𝕕 c) (A_eq 𝒱₀ a V D c 0) (after3_0 𝒱₀ a V D c) t d
theorem before3_1 (c : Dev nD) (t : Fin (cfg3 a).N) (d) : (𝕕 c).before 1 t d = iblk a V c 1 t :=
  before3_1_of a V (𝕕 c) (A_eq 𝒱₀ a V D c 1) (after3_1 𝒱₀ a V D c) t d
theorem before3_2 (c : Dev nD) (t : Fin (cfg3 a).N) (d) : (𝕕 c).before 2 t d = iblk a V c 2 t :=
  before3_2_of a V (𝕕 c) (A_eq 𝒱₀ a V D c 2) (after3_2 𝒱₀ a V D c) t d
theorem before3_3 (c : Dev nD) (t : Fin (cfg3 a).N) (d) : (𝕕 c).before 3 t d = iblk a V c 3 t :=
  before3_3_of a V (𝕕 c) (A_eq 𝒱₀ a V D c 3) (after3_3 𝒱₀ a V D c) t d
theorem before3_4 (c : Dev nD) (t : Fin (cfg3 a).N) (d) : (𝕕 c).before 4 t d = iblk a V c 4 t :=
  before3_4_of a V (𝕕 c) (A_eq 𝒱₀ a V D c 4) (after3_4 𝒱₀ a V D c) t d
theorem before3_5 (c : Dev nD) (t : Fin (cfg3 a).N) (d) : (𝕕 c).before 5 t d = iblk a V c 5 t :=
  before3_5_of a V (𝕕 c) (A_eq 𝒱₀ a V D c 5) (after3_5 𝒱₀ a V D c) t d
theorem before3_6 (c : Dev nD) (t : Fin (cfg3 a).N) (d) : (𝕕 c).before 6 t d = iblk a V c 6 t :=
  before3_6_of a V (𝕕 c) (A_eq 𝒱₀ a V D c 6) (after3_6 𝒱₀ a V D c) t d

/-! ## The body obligation, at a generic point -/

/-- What the body is called with at point `t` (Lib/Pipeline.lean `BodyObligation`'s precondition, the windows one by one), -/
def bodyPre (c : Dev nD) (t : Fin (cfg3 a).N) : sProp 𝕄 :=
  iprop((𝕕 c).Φ t.castSucc ∗ (𝕕 c).owesAt ι t.castSucc
    ∗ (∃ d, owns (c : Thread nD τ) (ms3_0 a t) fullShare ((𝕕 c).before 0 t d))
    ∗ (∃ d, owns (c : Thread nD τ) (ms3_1 a t) fullShare ((𝕕 c).before 1 t d))
    ∗ (∃ d, owns (c : Thread nD τ) (ms3_2 a t) fullShare ((𝕕 c).before 2 t d))
    ∗ (∃ d, owns (c : Thread nD τ) (ms3_3 a t) fullShare ((𝕕 c).before 3 t d))
    ∗ (∃ d, owns (c : Thread nD τ) (ms3_4 a t) fullShare ((𝕕 c).before 4 t d))
    ∗ (∃ d, owns (c : Thread nD τ) (ms3_5 a t) fullShare ((𝕕 c).before 5 t d))
    ∗ (∃ d, owns (c : Thread nD τ) (ms3_6 a t) fullShare ((𝕕 c).before 6 t d))
    ∗ (∃ d, owns (c : Thread nD τ) (ms3_7 a t) fullShare ((𝕕 c).before 7 t d)))

/-- and what it returns. -/
def bodyPost (c : Dev nD) (t : Fin (cfg3 a).N) : sProp 𝕄 :=
  iprop((𝕕 c).Φ t.succ ∗ (𝕕 c).owesAt ι t.succ
    ∗ owns (c : Thread nD τ) (ms3_0 a t) fullShare ((𝕕 c).after 0 t)
    ∗ owns (c : Thread nD τ) (ms3_1 a t) fullShare ((𝕕 c).after 1 t)
    ∗ owns (c : Thread nD τ) (ms3_2 a t) fullShare ((𝕕 c).after 2 t)
    ∗ owns (c : Thread nD τ) (ms3_3 a t) fullShare ((𝕕 c).after 3 t)
    ∗ owns (c : Thread nD τ) (ms3_4 a t) fullShare ((𝕕 c).after 4 t)
    ∗ owns (c : Thread nD τ) (ms3_5 a t) fullShare ((𝕕 c).after 5 t)
    ∗ owns (c : Thread nD τ) (ms3_6 a t) fullShare ((𝕕 c).after 6 t)
    ∗ owns (c : Thread nD τ) (ms3_7 a t) fullShare ((𝕕 c).after 7 t))

set_option maxHeartbeats 800000 in
/-- The body at any point: the inputs' memrefs hold their blocks (`before3_W`); so the
    run applies; the invariant passes through unread; the core owes `D c` throughout. -/
theorem sound_body (c : Dev nD) (t : Fin (cfg3 a).N) :
    bodyPre (U := U) (Lvl := Lvl) 𝒱₀ a V D ι c t ⊢ wp frame (wpE (defs₀ (F := F)) 𝒱₀ c none) Set.univ (bodyAt3 a t) (fun _ => bodyPost (U := U) (Lvl := Lvl) 𝒱₀ a V D ι c t) := by
  unfold bodyPre bodyPost bodyAt3
  simp only [before3_0, before3_1, before3_2, before3_3, before3_4, before3_5, before3_6]
  rw [show (𝕕 c).Φ t.succ = (𝕕 c).Φ t.castSucc from rfl,
    show (𝕕 c).owesAt ι t.succ = (𝕕 c).owesAt ι t.castSucc from rfl,
    after3_0, after3_1, after3_2, after3_3, after3_4, after3_5, after3_6, after3_7]
  rw [show (𝕕 c).Φ t.castSucc = iprop(ΦK (F := F) (Ix := Ix) (U := U) (Lvl := Lvl) c ∗ Pipeline.prefHeld pre3 c (fun _ => fullShare) a.1) from rfl, tables_eq]
  unfold outsAt3
  unfold out3_A_7
  iintro ⟨⟨HΦ, HT0⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun3_A (Ix := Ix) (U := U) (Lvl := Lvl) 𝒱₀ c (grid3.coords t) _ _ _ _ _ _ _ _ _ _ _ _ _ _ _ _ (iblk a V c 0 t) (iblk a V c 1 t) (iblk a V c 2 t) (iblk a V c 3 t) (iblk a V c 4 t) (iblk a V c 5 t) (iblk a V c 6 t) (a.1 0)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HT0]; · iexact HT0
  iintro ⟨H0, H1, H2, H3, H4, H5, H6, ⟨%e7, H7⟩, HT0⟩
  isplitl [HΦ HT0]
  · isplitl [HΦ]
    · iexact HΦ
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro; exact View.read_writes_of_cover _ _ _ _ _ (cover3_A_7 (Ix := Ix) (U := U) (Lvl := Lvl) 𝒱₀ c _ _ _ _ _ _ _ _ _ _ _ _ _ _ _ _ _ _ _ _ _ _ _ _ _)

/-- The body table's row at point `t`'s slots is the body as `bodyAt3` spells it. -/
theorem defs₀_row (t : Fin (cfg3 a).N) :
    defs₀ (F := F) .tc (cfg3 a).body ((cfg3 a).bodyArgs t ((cfg3 a).slots t)) = bodyAt3 a t := by
  unfold defs₀; rw [Defs.onTc_tc]

/-- The library's body obligation, at every point: the body's triple restated (Lib/Pipeline/FrameBody.lean `triple_restated`). -/
theorem body_obligation (c : Dev nD) : BodyObligation (𝕕 c) (defs₀ (F := F)) 𝒱₀ ι Set.univ := fun t => by
  rw [bigSep_W3, bigSep_W3, defs₀_row a]
  exact triple_restated (sound_body (U := U) (Lvl := Lvl) 𝒱₀ a V D ι c t) rfl .rfl fun _ => .rfl

end Cert.KernelIdeal.Calls.K3

end
-- ==== Proof.Stages.lean ====
/- The whole run of @main, from the four calls: what each call leaves in its output arrays (`outs`), built call by call from the
   launch memory, the table of frame numbers that the gather prefetches (`tbl`, admissible because @main clips it), the proof data
   of every call at those contents, and each call's segment record. -/
module

public import proofs.«01_k».proof.Proof.Gen.KernelIdeal.Regions
public import proofs.«01_k».proof.Proof.Gen.Own.KernelIdeal.K1.Frame
public import proofs.«01_k».proof.Proof.Gen.Own.KernelIdeal.K2.Frame
public import proofs.«01_k».proof.Proof.K0Frame
public import proofs.«01_k».proof.Proof.K3Frame
public import Idealize.ShloMosaic.Lib.Pipeline.RegionArrays
public import Idealize.ShloMosaic.Lib.Pipeline.RegionArraysT
public import Idealize.ShloMosaic.Lib.StableHlo.RunRead

@[expose] public section

set_option maxRecDepth 3256

noncomputable section

namespace Cert.KernelIdeal.Calls

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

/-! ## What each call leaves, call by call -/

/-- A call's entry contents, at the TensorCore's references. -/
abbrev Ent (V : Dev nD → Valuation τ sig (Elt F)) (c : Dev nD) (b : Ref sig .tc) : Buf (Elt F) ((c : Thread nD τ).loc b) :=
  V c (Proc.devRef .tc b)

/-- No call's core owes anything while it runs. -/
abbrev D0 : Dev nD → CellTallies nD τ sig Unit := fun _ => 0

/-- The proof data of the moments call, entered at `V`. -/
abbrev d0 (V : Dev nD → Valuation τ sig (Elt F)) (c : Dev nD) : Dat τ (Elt F) Unit ℕ (UR sig nD τ) ℕ cfg0 c := K0.dat Variants.none (Ent V) D0 c
/-- The proof data of the pooling call, entered at `V`. -/
abbrev d1 (V : Dev nD → Valuation τ sig (Elt F)) (c : Dev nD) : Dat τ (Elt F) Unit ℕ (UR sig nD τ) ℕ cfg1 c := Own.K1.dat Variants.none (Ent V) D0 c
/-- The proof data of the scoring call, entered at `V`. -/
abbrev d2 (V : Dev nD → Valuation τ sig (Elt F)) (c : Dev nD) : Dat τ (Elt F) Unit ℕ (UR sig nD τ) ℕ cfg2 c := Own.K2.dat Variants.none (Ent V) D0 c
/-- The proof data of the gather call at table `a`, entered at `V`. -/
abbrev d3 (a : (pcfg3 (F := F)).Adm) (V : Dev nD → Valuation τ sig (Elt F)) (c : Dev nD) : Dat τ (Elt F) Unit ℕ (UR sig nD τ) ℕ (cfg3 a) c :=
  K3.dat Variants.none a (Ent V) D0 c

variable (m : (ℓ : Loc nD τ sig) → Buf (Elt F) ℓ)

/-- The moments call's result. -/
def out0 (c : Dev nD) : Buf (Elt F) ((c : Thread nD τ).loc main_v3) := (d0 (V1 m) c).arrAt 1 cfg0.N
/-- The calls' results known after the moments call. -/
def outsA : Outs (F := F) := fun _ r c => Function.update (fun r => m ((c : Thread nD τ).loc r)) main_v3 (out0 m c) r
/-- The pooling call's result. -/
def out1 (c : Dev nD) : Buf (Elt F) ((c : Thread nD τ).loc main_v207) := (d1 (V3 m (outsA m)) c).arrAt 6 cfg1.N
/-- The calls' results known after the pooling call. -/
def outsB : Outs (F := F) := fun k r c => Function.update (fun r => outsA m k r c) main_v207 (out1 m c) r
/-- The scoring call's results: the scores, -/
def out2s (c : Dev nD) : Buf (Elt F) ((c : Thread nD τ).loc main_v213_0) := (d2 (V5 m (outsB m)) c).arrAt 5 cfg2.N
/-- the selected frames' numbers, -/
def out2i (c : Dev nD) : Buf (Elt F) ((c : Thread nD τ).loc main_v213_1) := (d2 (V5 m (outsB m)) c).arrAt 6 cfg2.N
/-- and their weights. -/
def out2w (c : Dev nD) : Buf (Elt F) ((c : Thread nD τ).loc main_v213_2) := (d2 (V5 m (outsB m)) c).arrAt 7 cfg2.N
/-- The calls' results known after the scoring call. -/
def outsC : Outs (F := F) := fun k r c =>
  Function.update (Function.update (Function.update (fun r => outsB m k r c) main_v213_0 (out2s m c)) main_v213_1 (out2i m c)) main_v213_2 (out2w m c) r

/-- The prefetched table: the frame numbers as @main leaves them, clipped. -/
def tbl : pre3.Contents (Elt F) := fun j => V8 m (outsC m) (0 : Dev nD) (Proc.devRef .tc (pre3.ref j))

/-! ## The table of frame numbers is admissible -/

/-- The table at the gather's entry: the numbers the scoring call left, clipped between 0 and 63. -/
theorem V8_table (o : Outs (F := F)) (c : Dev nD) :
    V8 m o c (Proc.devRef .tc main_v214) = minsi (broadcastInDim S4x16 ![] bcast_S_S4x16 (constantI S_ 32 63#32))
      (maxsi (broadcastInDim S4x16 ![] bcast_S_S4x16 (constantI S_ 32 0#32)) (o 6 main_v213_1 c)) := by
  unfold V8 V7
  after_reads_simp
  rw [show V6 m o c (Proc.devRef .tc main_v213_1) = o 6 main_v213_1 c by
    simp only [V6, Function.update_of_ne (StableHlo.devRef_ne_of_ne (by decide : (main_v213_1 : Ref sig .tc) ≠ main_v213_2)), Function.update_self]]
  rfl

/-- A word between 0 and 63 as a signed number is at most 63 as an unsigned one. -/
theorem toNat_le_of_toInt {v : BitVec 32} (h : 0 ≤ v.toInt ∧ v.toInt ≤ 63) : v.toNat ≤ 63 := by
  have := v.isLt
  rw [BitVec.toInt_eq_toNat_cond] at h
  split at h <;> omega

/-- A word clipped between 0 and 63 lies there. -/
theorem clip_range (v : BitVec 32) : 0 ≤ (IntOp.minsi 63#32 (IntOp.maxsi 0#32 v)).toInt ∧ (IntOp.minsi 63#32 (IntOp.maxsi 0#32 v)).toInt ≤ 63 := by
  have h0 : (0#32).toInt = 0 := rfl
  have h63 : (63#32).toInt = 63 := rfl
  unfold IntOp.minsi IntOp.maxsi
  simp only [BitVec.slt_eq_decide, decide_eq_true_eq, h0, h63]
  split_ifs <;> omega

/-- A table whose entries lie between 0 and 63 is admissible: each block of `x` it names is inside the array. -/
theorem ok_of_range (pf : pre3.Contents (Elt F)) (h : ∀ i, 0 ≤ (pf 0 i : BitVec 32).toInt ∧ (pf 0 i : BitVec 32).toInt ≤ 63) : ok3 pf := by
  intro i
  have h0 : (i 0).val < 4 := (i 0).isLt
  refine ⟨fun a => ?_, Or.inl rfl⟩
  match a with
  | 0 => show (((BitVec.ofNat 32 (i 0).val).toNat) + 1) * 1 ≤ 4
         rw [BitVec.toNat_ofNat, Nat.mod_eq_of_lt (by omega)]; omega
  | 1 => show (0 + 1) * 3 ≤ 3; decide
  | 2 => have hv : (pf.at 0 (Rect.unit (s := S4x16) ![(Scalar.indexCast (BitVec.ofNat 32 (i 0).val)).toNat, (Scalar.indexCast (BitVec.ofNat 32 (i 1).val)).toNat] S1x1.size (Facts₀.k3_off1_inb i)) Facts₀.numel1_S1x1 : BitVec 32).toNat ≤ 63 :=
           toNat_le_of_toInt (h _)
         show ((pf.at 0 (Rect.unit (s := S4x16) ![(Scalar.indexCast (BitVec.ofNat 32 (i 0).val)).toNat, (Scalar.indexCast (BitVec.ofNat 32 (i 1).val)).toNat] S1x1.size (Facts₀.k3_off1_inb i)) Facts₀.numel1_S1x1 : BitVec 32).toNat + 1) * 1 ≤ 64
         omega
  | 3 => show (0 + 1) * 392 ≤ 392; decide
  | 4 => show (0 + 1) * 128 ≤ 128; decide

/-- The table @main leaves, whatever memory it starts from, is admissible. -/
theorem tbl_ok : ok3 (tbl m) := ok_of_range _ fun i => by
  rw [show tbl m 0 i = V8 m (outsC m) (0 : Dev nD) (Proc.devRef .tc main_v214) i from rfl, V8_table]
  exact clip_range _

/-- The gather's table with its admissibility. -/
def adm3 : (pcfg3 (F := F)).Adm := ⟨tbl m, tbl_ok m⟩

/-- Every pipeline's table: only the gather has one. -/
def adm : (p : Fin 4) → (pcfgs (F := F) p).Adm
  | ⟨0, _⟩ => cfg0.toPCfg_adm
  | ⟨1, _⟩ => cfg1.toPCfg_adm
  | ⟨2, _⟩ => cfg2.toPCfg_adm
  | ⟨3, _⟩ => adm3 m

/-- The gather's result. -/
def out3 (c : Dev nD) : Buf (Elt F) ((c : Thread nD τ).loc main_v215) := (d3 (adm3 m) (V8 m (outsC m)) c).arrAt 7 (cfg3 (adm3 m)).N
/-- Every call's results. -/
def outs : Outs (F := F) := fun k r c => Function.update (fun r => outsC m k r c) main_v215 (out3 m c) r

/-! ## The results at the stages, and the contents they are entered from -/

theorem outs_v3 (k : ℕ) (c : Dev nD) : outs m k main_v3 c = out0 m c := by
  unfold outs outsC outsB outsA
  rw [Function.update_of_ne (by decide), Function.update_of_ne (by decide), Function.update_of_ne (by decide), Function.update_of_ne (by decide),
    Function.update_of_ne (by decide), Function.update_self]
theorem outsA_v3 (k : ℕ) (c : Dev nD) : outsA m k main_v3 c = out0 m c := by
  unfold outsA; rw [Function.update_self]
theorem outsB_v3 (k : ℕ) (c : Dev nD) : outsB m k main_v3 c = out0 m c := by
  unfold outsB; rw [Function.update_of_ne (by decide), outsA_v3]
theorem outsC_v3 (k : ℕ) (c : Dev nD) : outsC m k main_v3 c = out0 m c := by
  unfold outsC; rw [Function.update_of_ne (by decide), Function.update_of_ne (by decide), Function.update_of_ne (by decide), outsB_v3]
theorem outsB_v207 (k : ℕ) (c : Dev nD) : outsB m k main_v207 c = out1 m c := by
  unfold outsB; rw [Function.update_self]
theorem outsC_v207 (k : ℕ) (c : Dev nD) : outsC m k main_v207 c = out1 m c := by
  unfold outsC; rw [Function.update_of_ne (by decide), Function.update_of_ne (by decide), Function.update_of_ne (by decide), outsB_v207]
theorem outs_v207 (k : ℕ) (c : Dev nD) : outs m k main_v207 c = out1 m c := by
  unfold outs; rw [Function.update_of_ne (by decide), outsC_v207]
theorem outsC_v213_0 (k : ℕ) (c : Dev nD) : outsC m k main_v213_0 c = out2s m c := by
  unfold outsC; rw [Function.update_of_ne (by decide), Function.update_of_ne (by decide), Function.update_self]
theorem outsC_v213_1 (k : ℕ) (c : Dev nD) : outsC m k main_v213_1 c = out2i m c := by
  unfold outsC; rw [Function.update_of_ne (by decide), Function.update_self]
theorem outsC_v213_2 (k : ℕ) (c : Dev nD) : outsC m k main_v213_2 c = out2w m c := by
  unfold outsC; rw [Function.update_self]
theorem outs_v213_0 (k : ℕ) (c : Dev nD) : outs m k main_v213_0 c = out2s m c := by
  unfold outs; rw [Function.update_of_ne (by decide), outsC_v213_0]
theorem outs_v213_1 (k : ℕ) (c : Dev nD) : outs m k main_v213_1 c = out2i m c := by
  unfold outs; rw [Function.update_of_ne (by decide), outsC_v213_1]
theorem outs_v213_2 (k : ℕ) (c : Dev nD) : outs m k main_v213_2 c = out2w m c := by
  unfold outs; rw [Function.update_of_ne (by decide), outsC_v213_2]
theorem outs_v215 (k : ℕ) (c : Dev nD) : outs m k main_v215 c = out3 m c := by
  unfold outs; rw [Function.update_self]

/-- Two lists of results that agree on the moments give the same contents before the pooling call; -/
theorem V3_congr {o o' : Outs (F := F)} (h : ∀ c, o 2 main_v3 c = o' 2 main_v3 c) : V3 m o = V3 m o' := by
  funext c; unfold V3 V2; rw [h c]
/-- that also agree on the pooled means, before the scoring call; -/
theorem V5_congr {o o' : Outs (F := F)} (h : ∀ c, o 2 main_v3 c = o' 2 main_v3 c) (h' : ∀ c, o 4 main_v207 c = o' 4 main_v207 c) : V5 m o = V5 m o' := by
  funext c; unfold V5 V4; rw [h' c, V3_congr m h]
/-- and that agree on all but the gather's, before the gather. -/
theorem V8_congr {o o' : Outs (F := F)} (h : ∀ c, o 2 main_v3 c = o' 2 main_v3 c) (h' : ∀ c, o 4 main_v207 c = o' 4 main_v207 c)
    (h0 : ∀ c, o 6 main_v213_0 c = o' 6 main_v213_0 c) (h1 : ∀ c, o 6 main_v213_1 c = o' 6 main_v213_1 c) (h2 : ∀ c, o 6 main_v213_2 c = o' 6 main_v213_2 c) :
    V8 m o = V8 m o' := by
  funext c; unfold V8 V7 V6; rw [h0 c, h1 c, h2 c, V5_congr m h h']

theorem V3_outs : V3 m (outs m) = V3 m (outsA m) := V3_congr m fun c => by rw [outs_v3, outsA_v3]
theorem V5_outs : V5 m (outs m) = V5 m (outsB m) := V5_congr m (fun c => by rw [outs_v3, outsB_v3]) fun c => by rw [outs_v207, outsB_v207]
theorem V8_outs : V8 m (outs m) = V8 m (outsC m) :=
  V8_congr m (fun c => by rw [outs_v3, outsC_v3]) (fun c => by rw [outs_v207, outsC_v207]) (fun c => by rw [outs_v213_0, outsC_v213_0])
    (fun c => by rw [outs_v213_1, outsC_v213_1]) fun c => by rw [outs_v213_2, outsC_v213_2]

/-- Every call's proof data, at the contents the run has when the call is entered. -/
def pdats : (p : Fin 4) → (c : Dev nD) → Dat τ (Elt F) Unit ℕ (UR sig nD τ) ℕ (Pipeline.pin (pcfgs (F := F)) (adm m) p) c
  | ⟨0, _⟩ => fun c => d0 (V1 m) c
  | ⟨1, _⟩ => fun c => d1 (V3 m (outs m)) c
  | ⟨2, _⟩ => fun c => d2 (V5 m (outs m)) c
  | ⟨3, _⟩ => fun c => d3 (adm3 m) (V8 m (outs m)) c

/-! ## The arrays at each call's entry and exit -/

/-- The moments call leaves `x` as it was and its result at `out0`. -/
theorem exit0 (c : Dev nD) (w : Fin cfg0.W) : (d0 (V1 m) c).arrAt w cfg0.N = V2 m (outs m) c (Proc.devRef .tc (Pipeline.arrRef spec0 w)) := by
  match w with
  | 0 => exact ((d0 (V1 m) c).arrAt_in 0 rfl _).trans ((K0.A_eq (U := UR sig nD τ) (Lvl := ℕ) Variants.none (Ent (V1 m)) D0 c 0).trans (V2_of m (outs m) c (Pipeline.arrRef spec0 0) (by decide)).symm)
  | 1 => show out0 m c = _
         rw [show V2 m (outs m) c (Proc.devRef .tc (Pipeline.arrRef spec0 1)) = outs m 2 main_v3 c from Function.update_self .., outs_v3]

/-- An input window of the pooling call keeps its array. -/
theorem in1 (c : Dev nD) (w : Fin cfg1.W) (hw : (cfg1.win w).isOut = false) (hr : Pipeline.arrRef spec1 w ∉ ([main_v207] : List (Ref sig .tc))) :
    (d1 (V3 m (outs m)) c).arrAt w cfg1.N = V4 m (outs m) c (Proc.devRef .tc (Pipeline.arrRef spec1 w)) :=
  ((d1 (V3 m (outs m)) c).arrAt_in w hw _).trans
    ((Own.K1.A_eq (U := UR sig nD τ) (Lvl := ℕ) Variants.none (Ent (V3 m (outs m))) D0 c w).trans (V4_of m (outs m) c (Pipeline.arrRef spec1 w) hr).symm)

/-- The pooling call leaves its inputs as they were and its result at `out1`. -/
theorem exit1 (c : Dev nD) (w : Fin cfg1.W) : (d1 (V3 m (outs m)) c).arrAt w cfg1.N = V4 m (outs m) c (Proc.devRef .tc (Pipeline.arrRef spec1 w)) := by
  match w with
  | 0 => exact in1 m c 0 rfl (by decide)
  | 1 => exact in1 m c 1 rfl (by decide)
  | 2 => exact in1 m c 2 rfl (by decide)
  | 3 => exact in1 m c 3 rfl (by decide)
  | 4 => exact in1 m c 4 rfl (by decide)
  | 5 => exact in1 m c 5 rfl (by decide)
  | 6 => rw [V3_outs]
         show out1 m c = _
         rw [show V4 m (outs m) c (Proc.devRef .tc (Pipeline.arrRef spec1 6)) = outs m 4 main_v207 c from Function.update_self .., outs_v207]

/-- An input window of the scoring call keeps its array. -/
theorem in2 (c : Dev nD) (w : Fin cfg2.W) (hw : (cfg2.win w).isOut = false) (hr : Pipeline.arrRef spec2 w ∉ ([main_v213_0, main_v213_1, main_v213_2] : List (Ref sig .tc))) :
    (d2 (V5 m (outs m)) c).arrAt w cfg2.N = V6 m (outs m) c (Proc.devRef .tc (Pipeline.arrRef spec2 w)) :=
  ((d2 (V5 m (outs m)) c).arrAt_in w hw _).trans
    ((Own.K2.A_eq (U := UR sig nD τ) (Lvl := ℕ) Variants.none (Ent (V5 m (outs m))) D0 c w).trans (V6_of m (outs m) c (Pipeline.arrRef spec2 w) hr).symm)

theorem V6_v213_0 (o : Outs (F := F)) (c : Dev nD) : V6 m o c (Proc.devRef .tc main_v213_0) = o 6 main_v213_0 c := by
  simp only [V6, Function.update_of_ne (StableHlo.devRef_ne_of_ne (by decide : (main_v213_0 : Ref sig .tc) ≠ main_v213_1)), Function.update_of_ne (StableHlo.devRef_ne_of_ne (by decide : (main_v213_0 : Ref sig .tc) ≠ main_v213_2)), Function.update_self]
theorem V6_v213_1 (o : Outs (F := F)) (c : Dev nD) : V6 m o c (Proc.devRef .tc main_v213_1) = o 6 main_v213_1 c := by
  simp only [V6, Function.update_of_ne (StableHlo.devRef_ne_of_ne (by decide : (main_v213_1 : Ref sig .tc) ≠ main_v213_2)), Function.update_self]
theorem V6_v213_2 (o : Outs (F := F)) (c : Dev nD) : V6 m o c (Proc.devRef .tc main_v213_2) = o 6 main_v213_2 c := by
  simp only [V6, Function.update_self]

/-- The scoring call leaves its inputs as they were and its results at `out2s`, `out2i`, `out2w`. -/
theorem exit2 (c : Dev nD) (w : Fin cfg2.W) : (d2 (V5 m (outs m)) c).arrAt w cfg2.N = V6 m (outs m) c (Proc.devRef .tc (Pipeline.arrRef spec2 w)) := by
  match w with
  | 0 => exact in2 m c 0 rfl (by decide)
  | 1 => exact in2 m c 1 rfl (by decide)
  | 2 => exact in2 m c 2 rfl (by decide)
  | 3 => exact in2 m c 3 rfl (by decide)
  | 4 => exact in2 m c 4 rfl (by decide)
  | 5 => rw [V5_outs]
         exact ((V6_v213_0 m (outs m) c).trans (outs_v213_0 m 6 c)).symm
  | 6 => rw [V5_outs]
         exact ((V6_v213_1 m (outs m) c).trans (outs_v213_1 m 6 c)).symm
  | 7 => rw [V5_outs]
         exact ((V6_v213_2 m (outs m) c).trans (outs_v213_2 m 6 c)).symm

/-- An input window of the gather keeps its array. -/
theorem in3 (c : Dev nD) (w : Fin 8) (hw : ((cfg3 (adm3 m)).win w).isOut = false) (hr : Pipeline.arrRef spec3 w ∉ ([main_v215] : List (Ref sig .tc))) :
    (d3 (adm3 m) (V8 m (outs m)) c).arrAt w (cfg3 (adm3 m)).N = V9 m (outs m) c (Proc.devRef .tc (Pipeline.arrRef spec3 w)) :=
  ((d3 (adm3 m) (V8 m (outs m)) c).arrAt_in w hw _).trans
    ((K3.A_eq (U := UR sig nD τ) (Lvl := ℕ) Variants.none (adm3 m) (Ent (V8 m (outs m))) D0 c w).trans (V9_of m (outs m) c (Pipeline.arrRef spec3 w) hr).symm)

/-- The gather leaves its inputs as they were and its result at `out3`. -/
theorem exit3 (c : Dev nD) (w : Fin 8) :
    (d3 (adm3 m) (V8 m (outs m)) c).arrAt w (cfg3 (adm3 m)).N = V9 m (outs m) c (Proc.devRef .tc (Pipeline.arrRef spec3 w)) := by
  match w with
  | 0 => exact in3 m c 0 rfl (by decide)
  | 1 => exact in3 m c 1 rfl (by decide)
  | 2 => exact in3 m c 2 rfl (by decide)
  | 3 => exact in3 m c 3 rfl (by decide)
  | 4 => exact in3 m c 4 rfl (by decide)
  | 5 => exact in3 m c 5 rfl (by decide)
  | 6 => exact in3 m c 6 rfl (by decide)
  | 7 => rw [V8_outs]
         exact ((show V9 m (outs m) c (Proc.devRef .tc main_v215) = outs m 9 main_v215 c from Function.update_self ..).trans (outs_v215 m 9 c)).symm

/-! ## The calls' segment records -/

/-- Every cell of the pipelines' stagings may be waited on, at level 0: nothing is owed. -/
abbrev L : GSem nD τ sig → Finset Unit := fun g => if g.1.2 = .tc then Finset.univ else ∅
abbrev lv : GSem nD τ sig → Unit → ℕ := fun _ _ => 0

theorem cut (p : Fin 4) : Pipeline.LevelCut (pcfgs (F := F)) (adm m) () L lv p D0 (fun _ => 0) where
  hι _ _ _ := by simp [L]
  hιb _ _ _ := le_rfl
  hD _ _ _ h := absurd h (lt_irrefl _)

/-- What every core holds between two items besides the buffers: the random-number register and that it owes nothing. -/
abbrev E : Fin 5 → Dev nD → sProp (MT nD τ sig Unit (Elt F) ℕ (UR sig nD τ) ℕ) :=
  fun _ c => iprop((∃ r, prngReg c r) ∗ ∃ W, owes (c : Thread nD τ) (0 : CellTallies nD τ sig Unit) W)

/-- What rides along a call: every unscoped buffer that is not one of its arrays. -/
abbrev rest (A : Finset (DevRef τ sig)) (V : Dev nD → Valuation τ sig (Elt F)) (c : Dev nD) : sProp (MT nD τ sig Unit (Elt F) ℕ (UR sig nD τ) ℕ) :=
  StableHlo.held (c : Thread nD τ) (Pipeline.ucRefs τ sig \ A) (V c)

-- a library definition stated over `pin pcs a p` unifies with the pinned configuration only when unification may unfold plain
-- definitions in a metavariable's type
set_option backward.isDefEq.respectTransparency.types false in
/-- The moments call. -/
def R0 : RegionSeg (pcfgs (F := F)) (adm m) (pdats m) () defs₀ Variants.none L lv 0 :=
  Pipeline.RegionSeg.ofHeld (pcfgs (F := F)) (adm m) (pdats m) () defs₀ Variants.none L lv 0 D0
    (fun c => iprop(∃ r, prngReg c r)) (fun c => iprop(∃ r, prngReg c r)) launch0 rfl
    (fun c => (K0.body_obligation (U := UR sig nD τ) (Lvl := ℕ) Variants.none (Ent (V1 m)) D0 () c).loose) (fun _ _ => rfl) (fun _ => rfl)
    (fun c => (pdats m 0 c).share_full fun _ => rfl)
    (fun c => K0.hin (U := UR sig nD τ) (Lvl := ℕ) Variants.none (Ent (V1 m)) D0 c)
    (fun c => K0.hout (U := UR sig nD τ) (Lvl := ℕ) Variants.none (Ent (V1 m)) D0 c) (fun _ => 0) (cut m 0)
    (rest (Pipeline.arrRefs (τ := τ) spec0) (V1 m)) (V1 m) (V2 m (outs m)) (fun _ _ => rfl) (exit0 m)

set_option backward.isDefEq.respectTransparency.types false in
/-- The pooling call. -/
def R1 : RegionSeg (pcfgs (F := F)) (adm m) (pdats m) () defs₀ Variants.none L lv 1 :=
  Pipeline.RegionSeg.ofHeld (pcfgs (F := F)) (adm m) (pdats m) () defs₀ Variants.none L lv 1 D0
    (fun c => iprop(∃ r, prngReg c r)) (fun c => iprop(∃ r, prngReg c r)) launch1 rfl
    (fun c => (Own.K1.body_obligation (U := UR sig nD τ) (Lvl := ℕ) Variants.none (Ent (V3 m (outs m))) D0 () c).loose) (fun _ _ => rfl) (fun _ => rfl)
    (fun c => (pdats m 1 c).share_full fun _ => rfl) (fun _ => .rfl) (fun _ => .rfl) (fun _ => 0) (cut m 1)
    (rest (Pipeline.arrRefs (τ := τ) spec1) (V3 m (outs m))) (V3 m (outs m)) (V4 m (outs m)) (fun _ _ => rfl) (exit1 m)

set_option backward.isDefEq.respectTransparency.types false in
/-- The scoring call. -/
def R2 : RegionSeg (pcfgs (F := F)) (adm m) (pdats m) () defs₀ Variants.none L lv 2 :=
  Pipeline.RegionSeg.ofHeld (pcfgs (F := F)) (adm m) (pdats m) () defs₀ Variants.none L lv 2 D0
    (fun c => iprop(∃ r, prngReg c r)) (fun c => iprop(∃ r, prngReg c r)) launch2 rfl
    (fun c => (Own.K2.body_obligation (U := UR sig nD τ) (Lvl := ℕ) Variants.none (Ent (V5 m (outs m))) D0 () c).loose) (fun _ _ => rfl) (fun _ => rfl)
    (fun c => (pdats m 2 c).share_full fun _ => rfl) (fun _ => .rfl) (fun _ => .rfl) (fun _ => 0) (cut m 2)
    (rest (Pipeline.arrRefs (τ := τ) spec2) (V5 m (outs m))) (V5 m (outs m)) (V6 m (outs m)) (fun _ _ => rfl) (exit2 m)

/-- The table the gather runs at is the one in scalar memory at its entry, -/
theorem table_in (c : Dev nD) (k : Fin pre3.K) : tbl m k = V8 m (outs m) c (Proc.devRef .tc (pre3.ref k)) := by
  rw [V8_outs, Subsingleton.elim c 0]; rfl
/-- and at its exit. -/
theorem table_out (c : Dev nD) (k : Fin pre3.K) : tbl m k = V9 m (outs m) c (Proc.devRef .tc (pre3.ref k)) := by
  rw [table_in m c k]
  exact (V9_of m (outs m) c (pre3.ref k) (by revert k; decide)).symm

set_option backward.isDefEq.respectTransparency.types false in
/-- The gather call. -/
def R3 : RegionSeg (pcfgs (F := F)) (adm m) (pdats m) () defs₀ Variants.none L lv 3 :=
  Pipeline.RegionSeg.ofHeldT (pcfgs (F := F)) (adm m) (pdats m) () defs₀ Variants.none L lv 3 D0
    (fun c => iprop(∃ r, prngReg c r)) (fun c => iprop(∃ r, prngReg c r)) launch3
    (fun c => (K3.body_obligation (U := UR sig nD τ) (Lvl := ℕ) Variants.none (adm3 m) (Ent (V8 m (outs m))) D0 () c).loose) (fun _ _ => rfl) (fun _ => rfl)
    (fun c => (pdats m 3 c).share_full fun _ => rfl) (fun _ => .rfl) (fun _ => .rfl) (fun _ => 0) (cut m 3)
    (rest (Pipeline.arrRefs (τ := τ) spec3 ∪ Pipeline.tblRefs (τ := τ) pre3) (V8 m (outs m))) (V8 m (outs m)) (V9 m (outs m)) (fun _ _ => rfl)
    (table_in m) (exit3 m) (table_out m)

end Cert.KernelIdeal.Calls

end
-- ==== Proof.Run.lean ====
/- @main's run: every call's entry and exit over the buffers @main holds, and the run's conclusion, which besides the arguments and the
   semaphores states both results: they are what the last valuation `V10` holds, at the calls' results `outs`. -/
module

public import proofs.«01_k».proof.Proof.Stages

@[expose] public section

set_option maxRecDepth 3256

noncomputable section

namespace Cert.KernelIdeal.Calls

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## Entering and leaving a call -/

/-- A call is entered by setting its arrays `A` apart from the other buffers. -/
theorem enter {A : Finset (DevRef τ sig)} (hA : A ⊆ Pipeline.ucRefs τ sig) (V : Dev nD → Valuation τ sig (Elt F)) (c : Dev nD) :
    (iprop(StableHlo.held (c : Thread nD τ) (Pipeline.ucRefs τ sig) (V c) ∗ (∃ r, prngReg c r) ∗ ∃ W, owes (c : Thread nD τ) (0 : CellTallies nD τ sig Unit) W) : sProp 𝕄)
      ⊢ iprop(StableHlo.held (c : Thread nD τ) A (V c) ∗ (∃ r, prngReg c r) ∗ rest A V c ∗ ∃ W, owes (c : Thread nD τ) (D0 c) W) := by
  rw [StableHlo.held_sub_split (c : Thread nD τ) hA (V c)]
  iintro ⟨⟨Ha, Hr⟩, Hp, HO⟩
  isplitl [Ha]; · iexact Ha
  isplitl [Hp]; · iexact Hp
  isplitl [Hr]; · iexact Hr
  iexact HO

/-- It is left by putting them back, when nothing else has changed. -/
theorem leave {A : Finset (DevRef τ sig)} (hA : A ⊆ Pipeline.ucRefs τ sig) (V V' : Dev nD → Valuation τ sig (Elt F)) (c : Dev nD)
    (h : ∀ b ∈ Pipeline.ucRefs τ sig \ A, V' c b = V c b) :
    (iprop(StableHlo.held (c : Thread nD τ) A (V' c) ∗ (∃ r, prngReg c r) ∗ rest A V c ∗ ∃ W, owes (c : Thread nD τ) (D0 c) W) : sProp 𝕄)
      ⊢ iprop(StableHlo.held (c : Thread nD τ) (Pipeline.ucRefs τ sig) (V' c) ∗ (∃ r, prngReg c r) ∗ ∃ W, owes (c : Thread nD τ) (0 : CellTallies nD τ sig Unit) W) := by
  rw [StableHlo.held_sub_split (c : Thread nD τ) hA (V' c), StableHlo.held_congr (c : Thread nD τ) h]
  iintro ⟨Ha, Hp, Hr, HO⟩
  isplitl [Ha Hr]; · isplitl [Ha] <;> iassumption
  isplitl [Hp]; · iexact Hp
  iexact HO

/-- A buffer that is not among a call's arrays is none of them. -/
theorem ne_of_rest {gr W : ℕ} (win : Fin W → Pipeline.WinSpec sig gr) {S : Finset (DevRef τ sig)} {b : DevRef τ sig}
    (hb : b ∈ S \ Pipeline.arrRefs (τ := τ) win) (w : Fin W) {r : Ref sig .tc} (hr : Pipeline.arrRef win w = r) : b ≠ Proc.devRef .tc r := by
  rintro rfl
  exact (Finset.mem_sdiff.mp hb).2 (hr ▸ Finset.mem_map_of_mem _ (Finset.mem_image_of_mem _ (Finset.mem_univ w)))

theorem arr0_sub : Pipeline.arrRefs (τ := τ) spec0 ⊆ Pipeline.ucRefs τ sig := Pipeline.arrRefs_sub_ucRefs spec0 (by decide)
theorem arr1_sub : Pipeline.arrRefs (τ := τ) spec1 ⊆ Pipeline.ucRefs τ sig := Pipeline.arrRefs_sub_ucRefs spec1 (by decide)
theorem arr2_sub : Pipeline.arrRefs (τ := τ) spec2 ⊆ Pipeline.ucRefs τ sig := Pipeline.arrRefs_sub_ucRefs spec2 (by decide)
theorem arr3_sub : Pipeline.arrRefs (τ := τ) spec3 ⊆ Pipeline.ucRefs τ sig := Pipeline.arrRefs_sub_ucRefs spec3 (by decide)
theorem tbl3_sub : Pipeline.tblRefs (τ := τ) pre3 ⊆ Pipeline.ucRefs τ sig \ Pipeline.arrRefs (τ := τ) spec3 :=
  Pipeline.tblRefs_sub_ucRefs_sdiff spec3 pre3 (by decide) (by decide)

theorem keep0 (c : Dev nD) : ∀ b ∈ Pipeline.ucRefs τ sig \ Pipeline.arrRefs (τ := τ) spec0, V2 m (outs m) c b = V1 m c b := fun b hb => by
  have h := ne_of_rest spec0 hb 1 (r := main_v3) rfl
  simp only [V2, Function.update_of_ne h]
theorem keep1 (c : Dev nD) : ∀ b ∈ Pipeline.ucRefs τ sig \ Pipeline.arrRefs (τ := τ) spec1, V4 m (outs m) c b = V3 m (outs m) c b := fun b hb => by
  have h := ne_of_rest spec1 hb 6 (r := main_v207) rfl
  simp only [V4, Function.update_of_ne h]
theorem keep2 (c : Dev nD) : ∀ b ∈ Pipeline.ucRefs τ sig \ Pipeline.arrRefs (τ := τ) spec2, V6 m (outs m) c b = V5 m (outs m) c b := fun b hb => by
  have h := ne_of_rest spec2 hb 5 (r := main_v213_0) rfl
  have h' := ne_of_rest spec2 hb 6 (r := main_v213_1) rfl
  have h'' := ne_of_rest spec2 hb 7 (r := main_v213_2) rfl
  simp only [V6, Function.update_of_ne h, Function.update_of_ne h', Function.update_of_ne h'']
theorem keep3 (c : Dev nD) : ∀ b ∈ Pipeline.ucRefs τ sig \ Pipeline.arrRefs (τ := τ) spec3, V9 m (outs m) c b = V8 m (outs m) c b := fun b hb => by
  have h := ne_of_rest spec3 hb 7 (r := main_v215) rfl
  simp only [V9, Function.update_of_ne h]

/-- The gather is entered by setting its arrays and its table apart; -/
theorem enter3 (c : Dev nD) :
    (iprop(StableHlo.held (c : Thread nD τ) (Pipeline.ucRefs τ sig) (V8 m (outs m) c) ∗ E 3 c) : sProp 𝕄) ⊢ (R3 m).pre c := by
  show _ ⊢ iprop(StableHlo.held (c : Thread nD τ) (Pipeline.arrRefs (τ := τ) spec3) (V8 m (outs m) c) ∗ StableHlo.held (c : Thread nD τ) (Pipeline.tblRefs (τ := τ) pre3) (V8 m (outs m) c)
    ∗ (∃ r, prngReg c r) ∗ rest (Pipeline.arrRefs (τ := τ) spec3 ∪ Pipeline.tblRefs (τ := τ) pre3) (V8 m (outs m)) c ∗ ∃ W, owes (c : Thread nD τ) (D0 c) W)
  unfold rest
  rw [← Finset.sup_eq_union, ← sdiff_sdiff_left, StableHlo.held_sub_split (c : Thread nD τ) arr3_sub (V8 m (outs m) c), StableHlo.held_sub_split (c : Thread nD τ) tbl3_sub (V8 m (outs m) c)]
  iintro ⟨⟨Ha, Ht, Hr⟩, Hp, HO⟩
  isplitl [Ha]; · iexact Ha
  isplitl [Ht]; · iexact Ht
  isplitl [Hp]; · iexact Hp
  isplitl [Hr]; · iexact Hr
  iexact HO

/-- and left by putting them back. -/
theorem leave3 (c : Dev nD) :
    (R3 m).post c ⊢ (iprop(StableHlo.held (c : Thread nD τ) (Pipeline.ucRefs τ sig) (V9 m (outs m) c) ∗ E 4 c) : sProp 𝕄) := by
  show iprop(StableHlo.held (c : Thread nD τ) (Pipeline.arrRefs (τ := τ) spec3) (V9 m (outs m) c) ∗ StableHlo.held (c : Thread nD τ) (Pipeline.tblRefs (τ := τ) pre3) (V9 m (outs m) c)
    ∗ (∃ r, prngReg c r) ∗ rest (Pipeline.arrRefs (τ := τ) spec3 ∪ Pipeline.tblRefs (τ := τ) pre3) (V8 m (outs m)) c ∗ ∃ W, owes (c : Thread nD τ) (D0 c) W) ⊢ _
  unfold rest
  rw [← Finset.sup_eq_union, ← sdiff_sdiff_left, StableHlo.held_sub_split (c : Thread nD τ) arr3_sub (V9 m (outs m) c), StableHlo.held_sub_split (c : Thread nD τ) tbl3_sub (V9 m (outs m) c),
    StableHlo.held_congr (S := (Pipeline.ucRefs τ sig \ Pipeline.arrRefs (τ := τ) spec3) \ Pipeline.tblRefs (τ := τ) pre3) (c : Thread nD τ) fun b hb => keep3 m c b (Finset.sdiff_subset hb)]
  iintro ⟨Ha, Ht, Hp, Hr, HO⟩
  isplitl [Ha Ht Hr]
  · isplitl [Ha]; · iexact Ha
    isplitl [Ht] <;> iassumption
  isplitl [Hp]; · iexact Hp
  iexact HO

/-! ## The run -/

/-- The launch element: the cells' rounds and the launch's tokens. -/
abbrev u₀ : UR sig nD τ :=
  initOf (Pipeline.cells (Pipeline.pin (pcfgs (F := F)) (adm m)) (cellOf_inj (adm m))) (Pipeline.launchToks (Pipeline.pin (pcfgs (F := F)) (adm m)) (cellOf_inj (adm m)))

-- the launch theorem's implicit arguments are found by unifying its conclusion with this one, which takes unfolding plain definitions
-- in a metavariable's type
set_option backward.isDefEq.respectTransparency.types false in
/-- From any memory with zero counters every weakly fair execution of @main terminates; every final state has both results at what the
    last valuation holds, every argument as launched and every semaphore counter at zero. -/
theorem run_main (ρ : Dev nD → PrngReg) :
    θ_run defs (onTc (τ := τ) (main (F := F))) ⟨m, fun _ => 0, ρ⟩ (fun r => (∀ c : Dev nD,
      r.2.mem ((c.tc : Thread nD τ).loc main_v216) = V10 m (outs m) c (Proc.devRef .tc main_v216)
      ∧ r.2.mem ((c.tc : Thread nD τ).loc main_v213_0) = V10 m (outs m) c (Proc.devRef .tc main_v213_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) := by
  refine Pipeline.θ_run_regions_kit_dev_sems (pcfgs (F := F)) (adm m) (pdats m) () (cellOf_inj (adm m)) emb₁ defs₀ Variants.none L lv m ρ main
    (segs m (outs m) Variants.none L lv E () (adm m) (pdats m) (R0 m) (R1 m) (R2 m) (R3 m))
    (fun c Q => by
      rewrite [main_chain c, Seg.run_eq_chain,
        show (segs m (outs m) Variants.none L lv E () (adm m) (pdats m) (R0 m) (R1 m) (R2 m) (R3 m) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          StableHlo.seq hostOps3_1,
          Prog.lift (.customCall (Pipeline.entry 3) ()),
          StableHlo.seq hostOps4 ] from rfl]
      exact .rfl)
    (fun c => by simp only [segs, Seg.pipes_host, Seg.pipes_region, Seg.pipes_nil]; decide) (O₀ := 0)
    (hL := fun g hg => if_neg hg) (G := fun _ => iprop(emp)) (u₀ := u₀ m)
    (hu₀ := ?_)
    (T₀ := fun c => iprop(StableHlo.held (c : Thread nD τ) (Pipeline.ucRefs τ sig) (V0 m c) ∗ E 0 c))
    (Tₙ := fun c => StableHlo.held (c : Thread nD τ) (Pipeline.ucRefs τ sig) (V10 m (outs m) c))
    (hch := fun c => ⟨.rfl, enter arr0_sub (V1 m) c, leave arr0_sub (V1 m) (V2 m (outs m)) c (keep0 m c),
      enter arr1_sub (V3 m (outs m)) c, leave arr1_sub (V3 m (outs m)) (V4 m (outs m)) c (keep1 m c),
      enter arr2_sub (V5 m (outs m)) c, leave arr2_sub (V5 m (outs m)) (V6 m (outs m)) c (keep2 m c), .rfl, enter3 m c, leave3 m c,
      sep_mono .rfl (by iintro ⟨-, HO⟩; iexact HO)⟩)
    (hinit := ?_) (QY := fun c s => s.mem ((c.tc : Thread nD τ).loc main_v216) = V10 m (outs m) c (Proc.devRef .tc main_v216)
      ∧ s.mem ((c.tc : Thread nD τ).loc main_v213_0) = V10 m (outs m) c (Proc.devRef .tc main_v213_0)
      ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7))
    (hfin := fun c s' => ?_) (hQ := fun _ h hz => ⟨h, funext fun g => hz g (.inr (regions_no_unscoped g.2))⟩)
  · iintro Hu
    imodintro
    isplitl [Hu]
    · iapply (show (ownU (u₀ m) : sProp 𝕄) ⊢ BI.own (emb₁ (u₀ m)) from .rfl); iexact Hu
    iapply (show (BI.emp : sProp 𝕄) ⊢ bigSep Finset.univ (fun _ : Dev nD => (BI.emp : sProp 𝕄)) from by rw [BI.bigSep_emp_const])
    iempintro
  · refine Pipeline.initEach L lv fun c => ?_
    rw [show unscopedBufs c (fun b => m ((c.tc : Thread nD τ).loc b)) = StableHlo.held (c : Thread nD τ) (Pipeline.ucRefs τ sig) (V0 m c) from
      Pipeline.unscopedBufs_held (Ix := Unit) (Name := ℕ) (U := UR sig nD τ) (Lvl := ℕ) c (V0 m c)]
    iintro ⟨⟨Hh, -, HO, -, Hp, -⟩, -⟩
    imodintro
    isplitl [Hh]; · iexact Hh
    isplitl [Hp]; · iexists _; iexact Hp
    iexists ∅; iexact HO
  · unfold StableHlo.held
    iintro ⟨Hh, HSI⟩
    ihave Hr := (pointsTo_read_all (Pipeline.ucRefs τ sig) (fun b => ((c : Thread nD τ).1, b)) (V10 m (outs m) c) s') $$ [Hh HSI]
    · isplitl [Hh] <;> iassumption
    icases Hr with ⟨%h, HSI⟩
    imodintro
    isplitr
    · ipureintro
      have hr : ∀ r : Ref sig .tc, ¬ r.isScoped → s'.mem.mem ((c.tc : Thread nD τ).loc r) = V10 m (outs m) c (Proc.devRef .tc r) := fun r hs =>
        h (Proc.devRef .tc r) (Finset.mem_filter.mpr ⟨StableHlo.devRef_mem_tcRefs r, hs⟩)
      exact ⟨hr main_v216 (by decide), hr main_v213_0 (by decide),
        (hr main_arg0 (by decide)).trans (V10_main_arg0 m (outs m) c),
        (hr main_arg1 (by decide)).trans (V10_main_arg1 m (outs m) c),
        (hr main_arg2 (by decide)).trans (V10_main_arg2 m (outs m) c),
        (hr main_arg3 (by decide)).trans (V10_main_arg3 m (outs m) c),
        (hr main_arg4 (by decide)).trans (V10_main_arg4 m (outs m) c),
        (hr main_arg5 (by decide)).trans (V10_main_arg5 m (outs m) c),
        (hr main_arg6 (by decide)).trans (V10_main_arg6 m (outs m) c),
        (hr main_arg7 (by decide)).trans (V10_main_arg7 m (outs m) c)⟩
    · iexact HSI

end Cert.KernelIdeal.Calls

end
-- ==== Proof.Spec.lean ====
/- The mathematics of the problem over the extended reals, index by index, in the words both sides are brought to: one embedded,
   normalised, clamped pixel (`pix`). -/
module

public import proofs.«01_k».proof.KernelIdeal
public import Idealize.ShloMosaic.Lib.Pointwise

@[expose] public section

noncomputable section

namespace Cert.Spec

open Idealize.ShloMosaic Cert.KernelIdeal

/-- One pixel embedded by the three weights `w0 w1 w2`, normalised by `mu` and `sd`, scaled and shifted by `ga` and `be`, clamped at 0. -/
def nrm (w0 w1 w2 mu sd ga be x0 x1 x2 : EReal) : EReal := max (Ideal.div (w0 * x0 + w1 * x1 + w2 * x2 - mu) sd * ga + be) 0

/-- Channel `o` of one pixel, from the flat weights and the four per-channel vectors. -/
def pix (W : S12.Idx → EReal) (MU SD GA BE : S4.Idx → EReal) (o : Fin 4) (x0 x1 x2 : EReal) : EReal :=
  nrm (W (ix1 ⟨3 * o.val, by omega⟩)) (W (ix1 ⟨3 * o.val + 1, by omega⟩)) (W (ix1 ⟨3 * o.val + 2, by omega⟩))
    (MU (ix1 o)) (SD (ix1 o)) (GA (ix1 o)) (BE (ix1 o)) x0 x1 x2

/-- The nine products whose sums are the moments: the three channels, then their products in pairs. -/
def fac (x0 x1 x2 : EReal) : Fin 9 → EReal := ![x0, x1, x2, x0 * x0, x0 * x1, x0 * x2, x1 * x1, x1 * x2, x2 * x2]

/-- One frame's score from its pooled value `p`: eight clamped units, weighted and summed. -/
def score (a b c : Fin 8 → EReal) (d p : EReal) : EReal := (∑ j : Fin 8, max (p * a j + b j) 0 * c j) + d

/-- A frame's weight: the logistic function of its score. -/
def wgt (s : EReal) : EReal := Ideal.div 1 (1 + Ideal.exp (-s))

end Cert.Spec
-- ==== Proof.Rank.lean ====
/- Ranking by a key: the rank of `t` is the number of places that go before it (a greater key, or an equal key at a lower place).
   The stable sort by descending key puts the place of rank `k` at position `k`, so a rank names its place. -/
module

public import Idealize.ShloMosaic.Lib.PlanTiles.StableSort
public import Mathlib.Data.EReal.Operations
public import Mathlib.Algebra.BigOperators.Ring.Finset

@[expose] public section

noncomputable section

namespace Cert.Rank

open Idealize.ShloMosaic Idealize.ShloMosaic.PlanTiles

open scoped Classical

variable {n : ℕ} (f : Fin n → EReal)

/-- `x` goes before `t`: its key is greater, or equal at a lower place. -/
def bef (x t : Fin n) : Prop := f t < f x ∨ (f x = f t ∧ x < t)

/-- How many places go before `t`. -/
def rk (t : Fin n) : ℕ := (Finset.univ.filter fun x => bef f x t).card

/-- The place a stable sort by descending key puts at position `k`. -/
def sel (k : Fin n) : Fin n := sortedFrom (fun a b => decide (f b < f a)) k

theorem bef_asymm {x t : Fin n} (h : bef f x t) : ¬bef f t x := by
  rcases h with h | ⟨h, h'⟩ <;> rintro (g | ⟨g, g'⟩)
  · exact absurd g h.asymm
  · exact absurd g h.ne
  · exact absurd h g.ne
  · exact absurd g' h'.asymm

/-- The number of smaller keys: a natural number that orders the places as the key does. -/
def low (t : Fin n) : ℕ := (Finset.univ.filter fun x => f x < f t).card

theorem low_lt (a b : Fin n) : low f a < low f b ↔ f a < f b := by
  constructor
  · intro h
    by_contra hle
    refine absurd h (not_lt.mpr (Finset.card_le_card fun x hx => ?_))
    simp only [Finset.mem_filter, Finset.mem_univ, true_and] at hx ⊢
    exact hx.trans_le (not_lt.mp hle)
  · intro h
    refine Finset.card_lt_card ⟨fun x hx => ?_, fun hs => ?_⟩
    · simp only [Finset.mem_filter, Finset.mem_univ, true_and] at hx ⊢
      exact hx.trans h
    · have : a ∈ Finset.univ.filter fun x => f x < f a := hs (by simpa using h)
      simp at this

theorem lex_low {a b : Fin n} (h : Lex (low f) (· < ·) a b) : bef f a b := by
  rcases h with h | ⟨h, h'⟩
  · exact .inl ((low_lt f b a).mp h)
  · refine .inr ⟨le_antisymm (not_lt.mp fun hlt => ?_) (not_lt.mp fun hlt => ?_), h'⟩
    · exact absurd ((low_lt f b a).mpr hlt) (by omega)
    · exact absurd ((low_lt f a b).mpr hlt) (by omega)

/-- Earlier positions of the sort go before later ones. -/
theorem sel_bef {i j : Fin n} (h : i < j) : bef f (sel f i) (sel f j) := by
  have hb : (fun a b : Fin n => decide (f b < f a)) = fun a b => decide (low f b < low f a) := by
    funext a b; simp only [low_lt]
  have hp := pairwise_stableSort_lex (low f) (· < ·) (List.finRange n) (List.pairwise_lt_finRange n)
  rw [← hb] at hp
  exact lex_low f (List.pairwise_iff_get.mp hp _ _ (Fin.lt_def.mpr (by simpa using Fin.lt_def.mp h)))

/-- The place at position `k` has rank `k`. -/
theorem rk_sel (k : Fin n) : rk f (sel f k) = k.val := by
  have : (Finset.univ.filter fun x => bef f x (sel f k)) = (Finset.Iio k).image (sel f) := by
    ext x
    simp only [Finset.mem_filter, Finset.mem_univ, true_and, Finset.mem_image, Finset.mem_Iio]
    constructor
    · intro h
      obtain ⟨i, hi⟩ := sortedFrom_surjective (fun a b => decide (f b < f a)) x
      refine ⟨i, ?_, hi⟩
      subst hi
      rcases lt_trichotomy i k with hlt | heq | hgt
      · exact hlt
      · subst heq; exact absurd h (bef_asymm f h)
      · exact absurd (sel_bef f hgt) (bef_asymm f h)
    · rintro ⟨i, hi, rfl⟩
      exact sel_bef f hi
  rw [rk, this, Finset.card_image_of_injective (f := sel f) _ (sortedFrom_injective _), Fin.card_Iio]

/-- So rank `k` names the place at position `k`. -/
theorem rk_eq_iff (t k : Fin n) : rk f t = k.val ↔ t = sel f k := by
  constructor
  · intro h
    obtain ⟨i, hi⟩ := sortedFrom_surjective (fun a b => decide (f b < f a)) t
    have h' : rk f (sel f i) = k.val := by rw [← h]; exact congrArg _ hi
    rw [rk_sel] at h'
    rw [← hi, ← Fin.ext h']; rfl
  · rintro rfl; exact rk_sel f k

/-- A sum of the indicator of "goes before `t`" is the rank of `t`. -/
theorem sum_bef (t : Fin n) : (∑ x, if bef f x t then (1 : EReal) else 0) = ((rk f t : ℝ) : EReal) := by
  rw [Finset.sum_boole]; rfl

/-- A sum weighted by the indicator of rank `k` is the weight at the place of rank `k`. -/
theorem sum_rk (w : Fin n → EReal) (k : Fin n) : (∑ t, w t * if rk f t = k.val then (1 : EReal) else 0) = w (sel f k) := by
  simp only [rk_eq_iff, mul_ite, mul_one, mul_zero, Finset.sum_ite_eq', Finset.mem_univ, if_true]

/-- The sixteen picked frames: the eight greatest scores in order, then the eight least. -/
def pick (f : Fin 64 → EReal) (n : Fin 16) : Fin 64 :=
  if n.val < 8 then sel f ⟨n.val, by omega⟩ else sel (fun x => -f x) ⟨n.val - 8, by omega⟩

end Cert.Rank
-- ==== Proof.Problem.lean ====
/- The problem's mathematics over the extended reals as functions of the arrays, index by index, and the two ways its 224×224 frames are
   cut: into 224 rows of 224, and into 392 rows of 128. -/
module

public import proofs.«01_k».proof.Proof.Spec
public import proofs.«01_k».proof.Proof.Rank

@[expose] public section

noncomputable section

namespace Cert.Spec

open Idealize.ShloMosaic Cert.KernelIdeal Cert.Rank

/-! ## The two cuts of a frame -/

/-- The row and the column, of 224 each, of place `q` in row `p` of the cut into rows of 128. -/
def row (p : Fin 392) (q : Fin 128) : Fin 224 := ⟨(p.val * 128 + q.val) / 224, by omega⟩
def col (p : Fin 392) (q : Fin 128) : Fin 224 := ⟨(p.val * 128 + q.val) % 224, by omega⟩
/-- The row and the place in the cut into rows of 128, of the pixel in row `h` and column `u`. -/
def brow (h u : Fin 224) : Fin 392 := ⟨(h.val * 224 + u.val) / 128, by omega⟩
def bcol (h u : Fin 224) : Fin 128 := ⟨(h.val * 224 + u.val) % 128, by omega⟩

theorem row_brow (h u : Fin 224) : row (brow h u) (bcol h u) = h := Fin.ext (by simp only [row, brow, bcol]; omega)
theorem col_brow (h u : Fin 224) : col (brow h u) (bcol h u) = u := Fin.ext (by simp only [col, brow, bcol]; omega)
theorem brow_row (p : Fin 392) (q : Fin 128) : brow (row p q) (col p q) = p := Fin.ext (by simp only [row, col, brow]; omega)
theorem bcol_row (p : Fin 392) (q : Fin 128) : bcol (row p q) (col p q) = q := Fin.ext (by simp only [row, col, bcol]; omega)

/-- The two cuts, as a correspondence of places. -/
def cuts : Fin 392 × Fin 128 ≃ Fin 224 × Fin 224 where
  toFun a := (row a.1 a.2, col a.1 a.2)
  invFun a := (brow a.1 a.2, bcol a.1 a.2)
  left_inv a := Prod.ext (brow_row _ _) (bcol_row _ _)
  right_inv a := Prod.ext (row_brow _ _) (col_brow _ _)

/-- A sum over a frame is the same by either cut. -/
theorem sum_cuts (f : Fin 224 → Fin 224 → EReal) : (∑ p : Fin 392, ∑ q : Fin 128, f (row p q) (col p q)) = ∑ h : Fin 224, ∑ u : Fin 224, f h u := by
  rw [← Fintype.sum_prod_type', ← Fintype.sum_prod_type']
  exact Fintype.sum_equiv cuts _ _ fun _ => rfl

/-! ## The problem's values -/

/-- The number of pixels a channel's statistics are taken over, the number a frame's mean is taken over, and the guard under the root. -/
def cnt : EReal := Ideal.ofBits FTy.f32 0x4B440000#32
def cntF : EReal := Ideal.ofBits FTy.f32 0x48440000#32
def eps : EReal := Ideal.ofBits FTy.f32 0x3727C5AC#32

/-- A channel's mean from the nine moments `s` and its three weights, -/
def mean3 (w : Fin 3 → EReal) (s : Fin 9 → EReal) : EReal := w 0 * s 0 + w 1 * s 1 + w 2 * s 2
/-- its mean square, -/
def sq3 (w : Fin 3 → EReal) (s : Fin 9 → EReal) : EReal :=
  w 0 * w 0 * s 3 + w 0 * w 1 * s 4 + w 0 * w 2 * s 5 + w 1 * w 0 * s 4 + w 1 * w 1 * s 6 + w 1 * w 2 * s 7 + w 2 * w 0 * s 5 + w 2 * w 1 * s 7 + w 2 * w 2 * s 8
/-- and its standard deviation. -/
def dev3 (w : Fin 3 → EReal) (s : Fin 9 → EReal) : EReal := Ideal.sqrt (sq3 w s - mean3 w s * mean3 w s + eps)

/-- The moments of `x`: the nine sums over all pixels, divided by their number. -/
def moment (x : S4x3x64x224x224.Idx → EReal) (k : Fin 9) : EReal :=
  Ideal.div (∑ b : Fin 4, ∑ t : Fin 64, ∑ h : Fin 224, ∑ u : Fin 224, fac (x (ix5 b 0 t h u)) (x (ix5 b 1 t h u)) (x (ix5 b 2 t h u)) k) cnt

/-- The weights of channel `o`. -/
def wrow (w : S4x3.Idx → EReal) (o : Fin 4) : Fin 3 → EReal := fun d => w (ix2 o d)

section net

variable (x : S4x3x64x224x224.Idx → EReal) (w : S4x3.Idx → EReal) (MU SD : Fin 4 → EReal) (ga be : S4.Idx → EReal)

/-- Pixel `(h, u)` of channel `o` of frame `t` of batch `b`, embedded, normalised and clamped. -/
def act (b o : Fin 4) (t : Fin 64) (h u : Fin 224) : EReal :=
  nrm (w (ix2 o 0)) (w (ix2 o 1)) (w (ix2 o 2)) (MU o) (SD o) (ga (ix1 o)) (be (ix1 o)) (x (ix5 b 0 t h u)) (x (ix5 b 1 t h u)) (x (ix5 b 2 t h u))

/-- A frame's pooled value: the mean of its four channels' pixels. -/
def pool (b : Fin 4) (t : Fin 64) : EReal :=
  Ideal.div (∑ h : Fin 224, ∑ u : Fin 224,
    (act x w MU SD ga be b 0 t h u + act x w MU SD ga be b 1 t h u + act x w MU SD ga be b 2 t h u + act x w MU SD ga be b 3 t h u)) cntF

variable (w1 : S8x1.Idx → EReal) (b1 : S8.Idx → EReal) (w2 : S1x8.Idx → EReal) (b2 : S1.Idx → EReal)

/-- A frame's score. -/
def scores (b : Fin 4) (t : Fin 64) : EReal :=
  score (fun j => w1 (ix2 j 0)) (fun j => b1 (ix1 j)) (fun j => w2 (ix2 0 j)) (b2 (ix1 0)) (pool x w MU SD ga be b t)

/-- The frame chosen for place `n` of batch `b`. -/
def chosen (b : Fin 4) (n : Fin 16) : Fin 64 := pick (scores x w MU SD ga be w1 b1 w2 b2 b) n

/-- The first result: the chosen frames' pixels, each times its frame's weight. -/
def result (b o : Fin 4) (n : Fin 16) (h u : Fin 224) : EReal :=
  act x w MU SD ga be b o (chosen x w MU SD ga be w1 b1 w2 b2 b n) h u *
    wgt (scores x w MU SD ga be w1 b1 w2 b2 b (chosen x w MU SD ga be w1 b1 w2 b2 b n))

end net

end Cert.Spec
-- ==== Proof.HostVal.lean ====
/- What the host operations between the calls compute, read at an index: the frames cut into rows of 128, the channels' means and standard
   deviations from the moments, the pooled values and weights handed to the scoring call, the clipped table, the last reshape. -/
module

public import proofs.«01_k».proof.Proof.Stages
public import proofs.«01_k».proof.Proof.Problem
public import Idealize.ShloMosaic.Lib.StableHlo.ReadAt

@[expose] public section

set_option maxRecDepth 8192

noncomputable section

namespace Cert.KernelIdeal.HostVal

open Cert.KernelIdeal Cert.KernelIdeal.Gen Cert.KernelIdeal.Calls Cert.Spec
open Idealize.ShloMosaic Idealize.ShloMosaic.TcCoe

variable (m : (ℓ : Loc nD τ sig) → Buf (Elt Ideal) ℓ) (o : Outs (F := Ideal)) (c : Dev nD)

/-- The frames as the calls see them. -/
theorem frames (b : Fin 4) (d : Fin 3) (n : Fin 64) (p : Fin 392) (q : Fin 128) :
    @Eq EReal ((V1 m c main_v0 : S4x3x64x392x128.Idx → EReal) (ix5 b d n p q)) ((V0 m c main_arg0 : S4x3x64x224x224.Idx → EReal) (ix5 b d n (row p q) (col p q))) := by
  unfold V1
  after_reads_at
  exact congrArg₂ (fun i j => (V0 m c main_arg0 : S4x3x64x224x224.Idx → EReal) (ix5 b d n i j)) (Fin.ext (by simp only [row]; omega)) (Fin.ext (by simp only [col]; omega))

theorem weights (k : Fin 4) (j : Fin 3) : @Eq EReal ((V1 m c main_v2 : S4x3.Idx → EReal) (ix2 k j)) ((V0 m c main_arg1 : S4x3.Idx → EReal) (ix2 k j)) := by
  unfold V1
  after_reads_at

theorem flat (k : Fin 4) (j : Fin 3) : @Eq EReal ((V3 m o c main_v206 : S12.Idx → EReal) (ix1 ⟨k.val * 3 + j.val, by omega⟩)) ((V2 m o c main_v2 : S4x3.Idx → EReal) (ix2 k j)) := by
  unfold V3
  after_reads_at

/-- The moments as the host reads them off the first call's result. -/
def mom0 (k : Fin 9) : EReal := Ideal.div ((V2 m o c main_v3 : S9x128.Idx → EReal) (ix2 k 0)) cnt

set_option maxHeartbeats 8000000 in
theorem means (k : Fin 4) : @Eq EReal ((V3 m o c main_v200 : S4.Idx → EReal) (ix1 k)) (mean3 (wrow (V2 m o c main_v2) k) (mom0 m o c)) := by
  match k with
  | 0 | 1 | 2 | 3 =>
    unfold V3
    after_reads_at
    rw [StableHlo.unary_result']
    after_reads_at
    rfl

set_option maxHeartbeats 8000000 in
theorem devs (k : Fin 4) : @Eq EReal ((V3 m o c main_v205 : S4.Idx → EReal) (ix1 k)) (dev3 (wrow (V2 m o c main_v2) k) (mom0 m o c)) := by
  match k with
  | 0 | 1 | 2 | 3 =>
    unfold V3
    after_reads_at
    rw [StableHlo.unary_result']
    after_reads_at
    rfl

/-- The pooled values as the scoring call sees them. -/
theorem pooled (b : Fin 4) (t : Fin 64) :
    @Eq EReal ((V5 m o c main_v210 : S4x64.Idx → EReal) (ix2 b t)) ((V4 m o c main_v207 : S256x1x128.Idx → EReal) (Idealize.ShloMosaic.ix3 ⟨b.val * 64 + t.val, by omega⟩ 0 0)) := by
  unfold V5
  after_reads_at

theorem first (j : Fin 8) : @Eq EReal ((V5 m o c main_v211 : S8.Idx → EReal) (ix1 j)) ((V4 m o c main_arg4 : S8x1.Idx → EReal) (ix2 j 0)) := by
  unfold V5
  after_reads_at

theorem second (j : Fin 8) : @Eq EReal ((V5 m o c main_v212 : S8.Idx → EReal) (ix1 j)) ((V4 m o c main_arg6 : S1x8.Idx → EReal) (ix2 0 j)) := by
  unfold V5
  after_reads_at

/-- A word below 64 is its own clip. -/
theorem clip_small (f : Fin 64) : IntOp.minsi 63#32 (IntOp.maxsi 0#32 (BitVec.ofNat 32 f.val)) = BitVec.ofNat 32 f.val := by
  revert f; decide

/-- The table, where the scoring call left frame numbers. -/
theorem table (b : Fin 4) (n : Fin 16) (f : Fin 64) (h : (o 6 main_v213_1 c : S4x16.Idx → BitVec 32) (ix2 b n) = BitVec.ofNat 32 f.val) :
    @Eq (BitVec 32) ((V8 m o c main_v214 : S4x16.Idx → BitVec 32) (ix2 b n)) (BitVec.ofNat 32 f.val) := by
  rw [V8_table]
  refine Eq.trans ?_ (clip_small f)
  rw [← h]
  pointwise

/-- The last reshape. -/
theorem last (b k : Fin 4) (n : Fin 16) (h u : Fin 224) :
    @Eq EReal ((V10 m o c main_v216 : S4x4x16x224x224.Idx → EReal) (ix5 b k n h u)) ((V9 m o c main_v215 : S4x4x16x392x128.Idx → EReal) (ix5 b k n (brow h u) (bcol h u))) := by
  unfold V10
  after_reads_at
  exact congrArg₂ (fun i j => (V9 m o c main_v215 : S4x4x16x392x128.Idx → EReal) (ix5 b k n i j)) (Fin.ext (by simp only [brow]; omega)) (Fin.ext (by simp only [bcol]; omega))

end Cert.KernelIdeal.HostVal
-- ==== Proof.MomentsVal.lean ====
/- What the moments call leaves: nine sums over all frames and pixels, of the three channels and of their products in pairs. -/
module

public import proofs.«01_k».proof.Proof.Stages
public import proofs.«01_k».proof.Proof.Spec
public import Idealize.ShloMosaic.Lib.Pipeline.ValueKit
public import Idealize.ShloMosaic.Lib.VecWindow
public import Idealize.ShloMosaic.Lib.Pipeline.ReadBack
public import Idealize.ShloMosaic.Lib.Pipeline.Covers

@[expose] public section

set_option maxRecDepth 8000

noncomputable section

namespace Cert.KernelIdeal.MomentsVal

open Cert.KernelIdeal Cert.KernelIdeal.Gen Cert.KernelIdeal.Calls Cert.Spec
open Idealize.ShloMosaic Idealize.ShloMosaic.TcCoe
open Idealize.ShloMosaic.Pipeline (Dat Seg HostSeg RegionSeg)

/-! ## One grid point -/

section step

variable (X : Vec Ideal S1x3x1x392x128 .f32) (S : Vec Ideal S9x8x128 .f32)

/-- One frame's part of moment `k` at row `r` and lane `s` of the running sums: 49 blocks of eight rows. -/
def part (k : Fin 9) (r : Fin 8) (s : Fin 128) : EReal :=
  ∑ q : Fin 49, fac (X (ix5 0 0 0 ⟨q.val * 8 + r.val, by omega⟩ s)) (X (ix5 0 1 0 ⟨q.val * 8 + r.val, by omega⟩ s)) (X (ix5 0 2 0 ⟨q.val * 8 + r.val, by omega⟩ s)) k

/-- One frame added to the running sums. -/
def upd : Vec Ideal S9x8x128 .f32 := fun y => (S y : EReal) + part X (y 0) (y 1) (y 2)

theorem ex (x : S1x8x128.Idx) : ∃ (a : Fin 1) (r : Fin 8) (s : Fin 128), x = Idealize.ShloMosaic.ix3 a r s := ⟨x 0, x 1, x 2, Idealize.ShloMosaic.eq_ix3 x⟩

theorem emb_row (k : Fin 9) (inb : ∀ a, ![k.val, 0, 0] a + ![1, 8, 128] a ≤ S9x8x128.size a) (a : Fin 1) (r : Fin 8) (s : Fin 128) :
    (Rect.unit (s := S9x8x128) ![k.val, 0, 0] ![1, 8, 128] inb).emb (Idealize.ShloMosaic.ix3 a r s) = (Idealize.ShloMosaic.ix3 k r s : S9x8x128.Idx) := by
  funext i
  match i with
  | 0 => exact Fin.ext (by show k.val + 1 * a.val = k.val; omega)
  | 1 => exact Fin.ext (by show 0 + 1 * r.val = r.val; omega)
  | 2 => exact Fin.ext (by show 0 + 1 * s.val = s.val; omega)

theorem upd_row (k : Fin 9) (r : Fin 8) (s : Fin 128) :
    S (Idealize.ShloMosaic.ix3 k r s) + (∑ q : Fin 49, fac (X (ix5 0 0 0 ⟨q.val * 8 + r.val, by omega⟩ s)) (X (ix5 0 1 0 ⟨q.val * 8 + r.val, by omega⟩ s)) (X (ix5 0 2 0 ⟨q.val * 8 + r.val, by omega⟩ s)) k) =
      upd X S (Idealize.ShloMosaic.ix3 k r s) := rfl

theorem row0 (x : S1x8x128.Idx) : k0_pay5 X (View.ld S (Rect.unit ![0, 0, 0] ![1, 8, 128] inb_S9x8x128_S1x8x128_0_0_0)) x = upd X S ((Rect.unit (s := S9x8x128) ![0, 0, 0] ![1, 8, 128] inb_S9x8x128_S1x8x128_0_0_0).emb x) := by
  obtain ⟨a, r, s, rfl⟩ := ex x
  refine Eq.trans ?_ (congrArg (upd X S) (emb_row 0 _ a r s)).symm
  pointwise [k0_pay5, k0_pay4]
  exact upd_row X S _ r s
theorem row1 (x : S1x8x128.Idx) : k0_pay6 X (View.ld S (Rect.unit ![1, 0, 0] ![1, 8, 128] inb_S9x8x128_S1x8x128_1_0_0)) x = upd X S ((Rect.unit (s := S9x8x128) ![1, 0, 0] ![1, 8, 128] inb_S9x8x128_S1x8x128_1_0_0).emb x) := by
  obtain ⟨a, r, s, rfl⟩ := ex x
  refine Eq.trans ?_ (congrArg (upd X S) (emb_row 1 _ a r s)).symm
  pointwise [k0_pay6, k0_pay4]
  exact upd_row X S _ r s
theorem row2 (x : S1x8x128.Idx) : k0_pay9 (k0_pay7 X) (k0_pay8 (View.ld S (Rect.unit ![2, 0, 0] ![1, 8, 128] inb_S9x8x128_S1x8x128_2_0_0))) x = upd X S ((Rect.unit (s := S9x8x128) ![2, 0, 0] ![1, 8, 128] inb_S9x8x128_S1x8x128_2_0_0).emb x) := by
  obtain ⟨a, r, s, rfl⟩ := ex x
  refine Eq.trans ?_ (congrArg (upd X S) (emb_row 2 _ a r s)).symm
  pointwise [k0_pay9, k0_pay7, k0_pay8, k0_pay4]
  exact upd_row X S _ r s
theorem row3 (x : S1x8x128.Idx) : k0_pay10 (k0_pay4 X) (View.ld S (Rect.unit ![3, 0, 0] ![1, 8, 128] inb_S9x8x128_S1x8x128_3_0_0)) x = upd X S ((Rect.unit (s := S9x8x128) ![3, 0, 0] ![1, 8, 128] inb_S9x8x128_S1x8x128_3_0_0).emb x) := by
  obtain ⟨a, r, s, rfl⟩ := ex x
  refine Eq.trans ?_ (congrArg (upd X S) (emb_row 3 _ a r s)).symm
  pointwise [k0_pay10, k0_pay4]
  exact upd_row X S _ r s
theorem row4 (x : S1x8x128.Idx) : k0_pay11 (k0_pay4 X) (View.ld S (Rect.unit ![4, 0, 0] ![1, 8, 128] inb_S9x8x128_S1x8x128_4_0_0)) x = upd X S ((Rect.unit (s := S9x8x128) ![4, 0, 0] ![1, 8, 128] inb_S9x8x128_S1x8x128_4_0_0).emb x) := by
  obtain ⟨a, r, s, rfl⟩ := ex x
  refine Eq.trans ?_ (congrArg (upd X S) (emb_row 4 _ a r s)).symm
  pointwise [k0_pay11, k0_pay4]
  exact upd_row X S _ r s
theorem row5 (x : S1x8x128.Idx) : k0_pay13 (k0_pay12 (k0_pay4 X)) (View.ld S (Rect.unit ![5, 0, 0] ![1, 8, 128] inb_S9x8x128_S1x8x128_5_0_0)) x = upd X S ((Rect.unit (s := S9x8x128) ![5, 0, 0] ![1, 8, 128] inb_S9x8x128_S1x8x128_5_0_0).emb x) := by
  obtain ⟨a, r, s, rfl⟩ := ex x
  refine Eq.trans ?_ (congrArg (upd X S) (emb_row 5 _ a r s)).symm
  pointwise [k0_pay13, k0_pay12, k0_pay4]
  exact upd_row X S _ r s
theorem row6 (x : S1x8x128.Idx) : k0_pay14 (k0_pay4 X) (View.ld S (Rect.unit ![6, 0, 0] ![1, 8, 128] inb_S9x8x128_S1x8x128_6_0_0)) x = upd X S ((Rect.unit (s := S9x8x128) ![6, 0, 0] ![1, 8, 128] inb_S9x8x128_S1x8x128_6_0_0).emb x) := by
  obtain ⟨a, r, s, rfl⟩ := ex x
  refine Eq.trans ?_ (congrArg (upd X S) (emb_row 6 _ a r s)).symm
  pointwise [k0_pay14, k0_pay4]
  exact upd_row X S _ r s
theorem row7 (x : S1x8x128.Idx) : k0_pay15 (k0_pay4 X) (View.ld S (Rect.unit ![7, 0, 0] ![1, 8, 128] inb_S9x8x128_S1x8x128_7_0_0)) x = upd X S ((Rect.unit (s := S9x8x128) ![7, 0, 0] ![1, 8, 128] inb_S9x8x128_S1x8x128_7_0_0).emb x) := by
  obtain ⟨a, r, s, rfl⟩ := ex x
  refine Eq.trans ?_ (congrArg (upd X S) (emb_row 7 _ a r s)).symm
  pointwise [k0_pay15, k0_pay4]
  exact upd_row X S _ r s
theorem row8 (x : S1x8x128.Idx) : k0_pay1 (k0_pay16 (k0_pay4 X)) (View.ld S (Rect.unit ![8, 0, 0] ![1, 8, 128] inb_S9x8x128_S1x8x128_8_0_0)) x = upd X S ((Rect.unit (s := S9x8x128) ![8, 0, 0] ![1, 8, 128] inb_S9x8x128_S1x8x128_8_0_0).emb x) := by
  obtain ⟨a, r, s, rfl⟩ := ex x
  refine Eq.trans ?_ (congrArg (upd X S) (emb_row 8 _ a r s)).symm
  pointwise [k0_pay1, k0_pay16, k0_pay4]
  exact upd_row X S _ r s

omit X S in
/-- The nine rows cover the running sums. -/
theorem covers9 (w8 w7 w6 w5 w4 w3 w2 w1 w0 : Vec Ideal S1x8x128 .f32) (y : S9x8x128.Idx) :
    ∃ p ∈ ([⟨Rect.unit ![8, 0, 0] ![1, 8, 128] inb_S9x8x128_S1x8x128_8_0_0, w8⟩, ⟨Rect.unit ![7, 0, 0] ![1, 8, 128] inb_S9x8x128_S1x8x128_7_0_0, w7⟩,
      ⟨Rect.unit ![6, 0, 0] ![1, 8, 128] inb_S9x8x128_S1x8x128_6_0_0, w6⟩, ⟨Rect.unit ![5, 0, 0] ![1, 8, 128] inb_S9x8x128_S1x8x128_5_0_0, w5⟩,
      ⟨Rect.unit ![4, 0, 0] ![1, 8, 128] inb_S9x8x128_S1x8x128_4_0_0, w4⟩, ⟨Rect.unit ![3, 0, 0] ![1, 8, 128] inb_S9x8x128_S1x8x128_3_0_0, w3⟩,
      ⟨Rect.unit ![2, 0, 0] ![1, 8, 128] inb_S9x8x128_S1x8x128_2_0_0, w2⟩, ⟨Rect.unit ![1, 0, 0] ![1, 8, 128] inb_S9x8x128_S1x8x128_1_0_0, w1⟩,
      ⟨Rect.unit ![0, 0, 0] ![1, 8, 128] inb_S9x8x128_S1x8x128_0_0_0, w0⟩] : List (View.Piece (Elt Ideal) S9x8x128 .f32)), y ∈ p.1.set := by
  obtain ⟨k, r, s, rfl⟩ : ∃ (k : Fin 9) (r : Fin 8) (s : Fin 128), y = Idealize.ShloMosaic.ix3 k r s := ⟨y 0, y 1, y 2, Idealize.ShloMosaic.eq_ix3 y⟩
  have key : ∀ inb, (Idealize.ShloMosaic.ix3 k r s : S9x8x128.Idx) ∈ (Rect.unit (s := S9x8x128) ![k.val, 0, 0] ![1, 8, 128] inb).set := fun inb =>
    Rect.mem_set_unit.mpr fun a => by
      match a with
      | 0 => exact ⟨le_refl k.val, Nat.lt_succ_self k.val⟩
      | 1 => exact ⟨Nat.zero_le _, by show r.val < 0 + 8; omega⟩
      | 2 => exact ⟨Nat.zero_le _, by show s.val < 0 + 128; omega⟩
  fin_cases k
  all_goals
    simp only [List.mem_cons, List.not_mem_nil, or_false, exists_eq_or_imp, exists_eq_left]
  · exact .inr <| .inr <| .inr <| .inr <| .inr <| .inr <| .inr <| .inr (key _)
  · exact .inr <| .inr <| .inr <| .inr <| .inr <| .inr <| .inr <| .inl (key _)
  · exact .inr <| .inr <| .inr <| .inr <| .inr <| .inr <| .inl (key _)
  · exact .inr <| .inr <| .inr <| .inr <| .inr <| .inl (key _)
  · exact .inr <| .inr <| .inr <| .inr <| .inl (key _)
  · exact .inr <| .inr <| .inr <| .inl (key _)
  · exact .inr <| .inr <| .inl (key _)
  · exact .inr <| .inl (key _)
  · exact .inl (key _)

end step

/-! ## The running sums, point by point -/

variable (V : Dev nD → Valuation τ sig (Elt Ideal)) (c : Dev nD)

set_option maxHeartbeats 1000000 in
theorem stepA (t : Fin cfg0.N) (h0 : t.val % 256 = 0) (h1 : ¬ t.val % 256 = 255) (y : S9x8x128.Idx) :
    (K0.outsAt0 (Ix := Unit) (U := UR sig nD τ) (Lvl := ℕ) Variants.none (Ent V) c t.val t.isLt).2 y = upd (K0.iblk (Ent V) c 0 t) (k0_pay3 (F := Ideal)) y := by
  rw [K0.outsAt0_A _ _ _ t h0 h1]
  frame_open
  simp (disch := decide) only [↓ View.readCov_skip, ↓ View.readCov_cons_toLoadRect, ↓ View.readCov_fill]
  frame_out
  refine View.canon_append_of_piecesOf (upd (K0.iblk (Ent V) c 0 t) (k0_pay3 (F := Ideal))) [_] [_, _, _, _, _, _, _, _, _] ⟨?_, ?_, ?_, ?_, ?_, ?_, ?_, ?_, ?_, trivial⟩ y ?_
  exacts [row8 _ _, row7 _ _, row6 _ _, row5 _ _, row4 _ _, row3 _ _, row2 _ _, row1 _ _, row0 _ _, covers9 _ _ _ _ _ _ _ _ _ y]

set_option maxHeartbeats 1000000 in
theorem stepB (t : Fin cfg0.N) (h0 : ¬ t.val % 256 = 0) (h1 : ¬ t.val % 256 = 255) (y : S9x8x128.Idx) :
    (K0.outsAt0 (Ix := Unit) (U := UR sig nD τ) (Lvl := ℕ) Variants.none (Ent V) c t.val t.isLt).2 y = upd (K0.iblk (Ent V) c 0 t)
      (K0.outsAt0 (Ix := Unit) (U := UR sig nD τ) (Lvl := ℕ) Variants.none (Ent V) c (t.val - 1) (by have := t.isLt; omega)).2 y := by
  rw [K0.outsAt0_B _ _ _ t h0 h1]
  frame_open
  frame_out
  simp only [read_unread_whole]
  refine View.canon_append_of_piecesOf (upd (K0.iblk (Ent V) c 0 t) _) [] [_, _, _, _, _, _, _, _, _] ⟨?_, ?_, ?_, ?_, ?_, ?_, ?_, ?_, ?_, trivial⟩ y ?_
  exacts [row8 _ _, row7 _ _, row6 _ _, row5 _ _, row4 _ _, row3 _ _, row2 _ _, row1 _ _, row0 _ _, covers9 _ _ _ _ _ _ _ _ _ y]

set_option maxHeartbeats 1000000 in
theorem stepC (t : Fin cfg0.N) (h0 : ¬ t.val % 256 = 0) (h1 : t.val % 256 = 255) :
    (K0.outsAt0 (Ix := Unit) (U := UR sig nD τ) (Lvl := ℕ) Variants.none (Ent V) c t.val t.isLt).1 = k0_pay2 (F := Ideal) (upd (K0.iblk (Ent V) c 0 t)
      (K0.outsAt0 (Ix := Unit) (U := UR sig nD τ) (Lvl := ℕ) Variants.none (Ent V) c (t.val - 1) (by have := t.isLt; omega)).2) := by
  rw [K0.outsAt0_C _ _ _ t h0 h1]
  frame_open
  frame_out
  simp only [read_unread_whole]
  refine congrArg (k0_pay2 (F := Ideal)) ((View.readCov_eq_canon' _ _ _).trans (funext fun y => ?_))
  refine (congrArg (View.canon _) (show _ = y from ?_)).trans ?_
  · exact Rect.emb_unit_full _ y
  refine View.canon_append_of_piecesOf (upd (K0.iblk (Ent V) c 0 t) _) [] [_, _, _, _, _, _, _, _, _] ⟨?_, ?_, ?_, ?_, ?_, ?_, ?_, ?_, ?_, trivial⟩ y ?_
  exacts [row8 _ _, row7 _ _, row6 _ _, row5 _ _, row4 _ _, row3 _ _, row2 _ _, row1 _ _, row0 _ _, covers9 _ _ _ _ _ _ _ _ _ y]

theorem N256 (t : Fin cfg0.N) : t.val < 256 := Nat.lt_of_lt_of_eq t.isLt N_0

/-- Frame `n`'s part of the running sums. -/
def term (n : ℕ) (y : S9x8x128.Idx) : EReal := if h : n < cfg0.N then part (K0.iblk (Ent V) c 0 ⟨n, h⟩) (y 0) (y 1) (y 2) else 0

/-- Before the last frame the scratch holds the sum of the frames' parts so far. -/
theorem running : ∀ (n : ℕ) (h : n < cfg0.N), n < 255 → ∀ y : S9x8x128.Idx,
    (K0.outsAt0 (Ix := Unit) (U := UR sig nD τ) (Lvl := ℕ) Variants.none (Ent V) c n h).2 y = ∑ k ∈ Finset.range (n + 1), term V c k y
  | 0, h, _, y => by
    refine (stepA V c ⟨0, h⟩ rfl (by show ¬ 0 % 256 = 255; omega) y).trans ?_
    have h0 : (k0_pay3 (F := Ideal)) y = (0 : EReal) := by
      obtain ⟨k, r, s, rfl⟩ : ∃ (k : Fin 9) (r : Fin 8) (s : Fin 128), y = Idealize.ShloMosaic.ix3 k r s := ⟨y 0, y 1, y 2, Idealize.ShloMosaic.eq_ix3 y⟩
      pointwise [k0_pay3]
    rw [Finset.sum_range_one, term, dif_pos h, upd]
    show ((k0_pay3 (F := Ideal)) y : EReal) + _ = _
    rw [h0, zero_add]
  | n + 1, h, hn, y => by
    refine (stepB V c ⟨n + 1, h⟩ (by show ¬ (n + 1) % 256 = 0; omega) (by show ¬ (n + 1) % 256 = 255; omega) y).trans ?_
    rw [Finset.sum_range_succ, ← running n (by omega) (by omega) y, term, dif_pos h]
    rfl

theorem out255 (t : Fin cfg0.N) (h : t.val = 255) (k : Fin 9) (l : Fin 128) :
    (K0.outsAt0 (Ix := Unit) (U := UR sig nD τ) (Lvl := ℕ) Variants.none (Ent V) c t.val t.isLt).1 (ix2 k l) =
      (∑ r : Fin 8, ∑ s : Fin 128, ∑ n ∈ Finset.range 256, term V c n (Idealize.ShloMosaic.ix3 k r s) : EReal) := by
  rw [stepC V c t (by omega) (by omega)]
  pointwise [k0_pay2]
  refine Finset.sum_congr rfl fun r _ => Finset.sum_congr rfl fun s _ => ?_
  rw [Finset.sum_range_succ, upd]
  refine congrArg₂ (fun a b : EReal => a + b) ?_ ?_
  · have e := running V c (t.val - 1) (by have := t.isLt; omega) (by omega) (Idealize.ShloMosaic.ix3 k r s)
    rw [e]
    exact congrArg (fun n => ∑ k' ∈ Finset.range n, term V c k' (Idealize.ShloMosaic.ix3 k r s)) (by omega)
  · rw [term, dif_pos (Nat.lt_of_lt_of_eq (by norm_num) N_0.symm)]
    exact congrArg (fun u : Fin cfg0.N => part (K0.iblk (Ent V) c 0 u) k r s) (Fin.ext h)

theorem idx0 : ∀ t : Fin cfg0.N, win0_0.index t = ![t.val / 64, 0, t.val % 64, 0, 0] := by decide +kernel

theorem ib0 (t : Fin cfg0.N) (d : Fin 3) (p : Fin 392) (q : Fin 128) :
    K0.iblk (Ent V) c 0 t (ix5 0 d 0 p q) = (V c main_v0 : S4x3x64x392x128.Idx → EReal) (ix5 ⟨t.val / 64, by have := N256 t; omega⟩ d ⟨t.val % 64, Nat.mod_lt _ (by decide)⟩ p q) :=
  congrArg (V c main_v0 : S4x3x64x392x128.Idx → EReal) (by blk_ext! [idx0 t] : (win0_0.blk t).view.emb (ix5 0 d 0 p q) = ix5 ⟨t.val / 64, by have := N256 t; omega⟩ d ⟨t.val % 64, Nat.mod_lt _ (by decide)⟩ p q)

/-- Moment `k` of the frames: the sum over batches, frames and pixels of its product. -/
def mom (X : S4x3x64x392x128.Idx → EReal) (k : Fin 9) : EReal :=
  ∑ b : Fin 4, ∑ t : Fin 64, ∑ p : Fin 392, ∑ q : Fin 128, fac (X (ix5 b 0 t p q)) (X (ix5 b 1 t p q)) (X (ix5 b 2 t p q)) k

/-- The parts of all frames, summed over rows and lanes, are the moment. -/
theorem sum_terms (k : Fin 9) :
    (∑ r : Fin 8, ∑ s : Fin 128, ∑ n ∈ Finset.range 256, term V c n (Idealize.ShloMosaic.ix3 k r s) : EReal) = mom (V c main_v0 : S4x3x64x392x128.Idx → EReal) k := by
  let X : S4x3x64x392x128.Idx → EReal := (V c main_v0 : S4x3x64x392x128.Idx → EReal)
  let g : Fin 4 → Fin 64 → Fin 392 → Fin 128 → EReal := fun b t p q => fac (X (ix5 b 0 t p q)) (X (ix5 b 1 t p q)) (X (ix5 b 2 t p q)) k
  have ht : ∀ (n : Fin 256) (r : Fin 8) (s : Fin 128), term V c n.val (Idealize.ShloMosaic.ix3 k r s) =
      ∑ q : Fin 49, g ⟨n.val / 64, by omega⟩ ⟨n.val % 64, Nat.mod_lt _ (by decide)⟩ ⟨q.val * 8 + r.val, by omega⟩ s := fun n r s => by
    rw [term, dif_pos (Nat.lt_of_lt_of_eq n.isLt N_0.symm)]
    refine Finset.sum_congr rfl fun q _ => ?_
    show fac (K0.iblk (Ent V) c 0 ⟨n.val, _⟩ (ix5 0 0 0 ⟨q.val * 8 + r.val, _⟩ s)) (K0.iblk (Ent V) c 0 ⟨n.val, _⟩ (ix5 0 1 0 ⟨q.val * 8 + r.val, _⟩ s))
      (K0.iblk (Ent V) c 0 ⟨n.val, _⟩ (ix5 0 2 0 ⟨q.val * 8 + r.val, _⟩ s)) k = _
    rw [ib0, ib0, ib0]
  have h1 : ∀ n : Fin 256, (∑ r : Fin 8, ∑ s : Fin 128, ∑ q : Fin 49, g ⟨n.val / 64, by omega⟩ ⟨n.val % 64, Nat.mod_lt _ (by decide)⟩ ⟨q.val * 8 + r.val, by omega⟩ s) =
      ∑ p : Fin 392, ∑ s : Fin 128, g ⟨n.val / 64, by omega⟩ ⟨n.val % 64, Nat.mod_lt _ (by decide)⟩ p s := fun n => by
    rw [← Fin.sum_mul_add_fin (S := 49) (n := 8) (L := 392) (fun p => ∑ s : Fin 128, g ⟨n.val / 64, by omega⟩ ⟨n.val % 64, Nat.mod_lt _ (by decide)⟩ p s)]
    exact (Finset.sum_congr rfl fun r _ => Finset.sum_comm).trans Finset.sum_comm
  calc (∑ r : Fin 8, ∑ s : Fin 128, ∑ n ∈ Finset.range 256, term V c n (Idealize.ShloMosaic.ix3 k r s) : EReal)
      = ∑ r : Fin 8, ∑ s : Fin 128, ∑ n : Fin 256, ∑ q : Fin 49, g ⟨n.val / 64, by omega⟩ ⟨n.val % 64, Nat.mod_lt _ (by decide)⟩ ⟨q.val * 8 + r.val, by omega⟩ s :=
        Finset.sum_congr rfl fun r _ => Finset.sum_congr rfl fun s _ => by
          rw [Finset.sum_range]; exact Finset.sum_congr rfl fun n _ => ht n r s
    _ = ∑ n : Fin 256, ∑ r : Fin 8, ∑ s : Fin 128, ∑ q : Fin 49, g ⟨n.val / 64, by omega⟩ ⟨n.val % 64, Nat.mod_lt _ (by decide)⟩ ⟨q.val * 8 + r.val, by omega⟩ s :=
        (Finset.sum_congr rfl fun r _ => Finset.sum_comm).trans Finset.sum_comm
    _ = ∑ n : Fin 256, ∑ p : Fin 392, ∑ s : Fin 128, g ⟨n.val / 64, by omega⟩ ⟨n.val % 64, Nat.mod_lt _ (by decide)⟩ p s := Finset.sum_congr rfl fun n _ => h1 n
    _ = _ := Fin.sum_divmod_fin (S := 64) (A := 4) (N := 256) (fun b t => ∑ p : Fin 392, ∑ s : Fin 128, g b t p s)

/-- The moments call's result: row `k` holds moment `k` in every lane. -/
theorem arr : (d0 V c).arrAt 1 cfg0.N = fun j : S9x128.Idx => mom (V c main_v0 : S4x3x64x392x128.Idx → EReal) (j 0) := by
  refine (d0 V c).arrAt_eq_of_after_last 1 ⟨255, Nat.lt_of_lt_of_eq (by norm_num) N_0.symm⟩ (by decide +kernel) _ fun j => ?_
  obtain ⟨k, l, rfl⟩ : ∃ (k : Fin 9) (l : Fin 128), j = ix2 k l := ⟨j 0, j 1, eq_ix2 j⟩
  blk_simp
  exact ((congrFun (K0.after0_1 _ _ _ c _) (ix2 k l)).trans (out255 V c ⟨255, Nat.lt_of_lt_of_eq (by norm_num) N_0.symm⟩ rfl k l)).trans (sum_terms V c k)

end Cert.KernelIdeal.MomentsVal
-- ==== Proof.PooledVal.lean ====
/- What the pooling call leaves: for every frame, the mean over the pixels of the sum of the four clamped channels, in every lane. -/
module

public import proofs.«01_k».proof.Proof.Stages
public import proofs.«01_k».proof.Proof.Spec
public import Idealize.ShloMosaic.Lib.Pipeline.ValueKit
public import Idealize.ShloMosaic.Lib.Pipeline.Covers

@[expose] public section

set_option maxRecDepth 8000

noncomputable section

namespace Cert.KernelIdeal.PooledVal

open Cert.KernelIdeal Cert.KernelIdeal.Gen Cert.KernelIdeal.Calls Cert.Spec
open Idealize.ShloMosaic Idealize.ShloMosaic.TcCoe
open Idealize.ShloMosaic.Pipeline (Dat Seg HostSeg RegionSeg)

variable (V : Dev nD → Valuation τ sig (Elt Ideal))

/-- The pooling call's result, from the frames, the flat weights and the four per-channel vectors. -/
def pooledArr (X : S4x3x64x392x128.Idx → EReal) (W : S12.Idx → EReal) (MU SD GA BE : S4.Idx → EReal) (b : Fin 4) (t : Fin 64) : EReal :=
  Ideal.div (∑ p : Fin 392, ∑ q : Fin 128,
    (pix W MU SD GA BE 0 (X (ix5 b 0 t p q)) (X (ix5 b 1 t p q)) (X (ix5 b 2 t p q)) + pix W MU SD GA BE 1 (X (ix5 b 0 t p q)) (X (ix5 b 1 t p q)) (X (ix5 b 2 t p q))
      + pix W MU SD GA BE 2 (X (ix5 b 0 t p q)) (X (ix5 b 1 t p q)) (X (ix5 b 2 t p q)) + pix W MU SD GA BE 3 (X (ix5 b 0 t p q)) (X (ix5 b 1 t p q)) (X (ix5 b 2 t p q))))
    (Ideal.ofBits .f32 0x48440000#32)

theorem idx0 : ∀ t : Fin cfg1.N, win1_0.index t = ![t.val / 64, 0, t.val % 64, 0, 0] := by decide +kernel
theorem idx1 : ∀ t : Fin cfg1.N, win1_1.index t = ![0] := by decide +kernel
theorem idx2 : ∀ t : Fin cfg1.N, win1_2.index t = ![0] := by decide +kernel
theorem idx3 : ∀ t : Fin cfg1.N, win1_3.index t = ![0] := by decide +kernel
theorem idx4 : ∀ t : Fin cfg1.N, win1_4.index t = ![0] := by decide +kernel
theorem idx5 : ∀ t : Fin cfg1.N, win1_5.index t = ![0] := by decide +kernel
theorem idx6 : ∀ t : Fin cfg1.N, win1_6.index t = ![t.val, 0, 0] := by decide +kernel

theorem N256 (t : Fin cfg1.N) : t.val < 256 := t.isLt

/-- The block of frames at point `t` is frame `t % 64` of batch `t / 64`. -/
theorem emb0 (t : Fin cfg1.N) (ch : Fin 3) (p : Fin 392) (q : Fin 128) :
    (win1_0.blk t).view.emb (ix5 0 ch 0 p q) = (ix5 ⟨t.val / 64, by have := N256 t; omega⟩ ch ⟨t.val % 64, Nat.mod_lt _ (by decide)⟩ p q : S4x3x64x392x128.Idx) := by
  blk_ext! [idx0 t]
theorem emb1 (t : Fin cfg1.N) (k : Fin 12) : (win1_1.blk t).view.emb (ix1 k) = (ix1 k : S12.Idx) := by blk_ext! [idx1 t]
theorem emb2 (t : Fin cfg1.N) (k : Fin 4) : (win1_2.blk t).view.emb (ix1 k) = (ix1 k : S4.Idx) := by blk_ext! [idx2 t]
theorem emb3 (t : Fin cfg1.N) (k : Fin 4) : (win1_3.blk t).view.emb (ix1 k) = (ix1 k : S4.Idx) := by blk_ext! [idx3 t]
theorem emb4 (t : Fin cfg1.N) (k : Fin 4) : (win1_4.blk t).view.emb (ix1 k) = (ix1 k : S4.Idx) := by blk_ext! [idx4 t]
theorem emb5 (t : Fin cfg1.N) (k : Fin 4) : (win1_5.blk t).view.emb (ix1 k) = (ix1 k : S4.Idx) := by blk_ext! [idx5 t]

/-- The block of frames at point `t`, read. -/
theorem ib0 (c : Dev nD) (t : Fin cfg1.N) (ch : Fin 3) (p : Fin 392) (q : Fin 128) :
    Own.K1.iblk (Ent V) c 0 t (ix5 0 ch 0 p q) = (V c main_v0 : S4x3x64x392x128.Idx → EReal) (ix5 ⟨t.val / 64, by have := N256 t; omega⟩ ch ⟨t.val % 64, Nat.mod_lt _ (by decide)⟩ p q) :=
  congrArg (V c main_v0 : S4x3x64x392x128.Idx → EReal) (emb0 t ch p q)
theorem ib1 (c : Dev nD) (t : Fin cfg1.N) (k : Fin 12) : Own.K1.iblk (Ent V) c 1 t (ix1 k) = (V c main_v206 : S12.Idx → EReal) (ix1 k) := congrArg (V c main_v206 : S12.Idx → EReal) (emb1 t k)
theorem ib2 (c : Dev nD) (t : Fin cfg1.N) (k : Fin 4) : Own.K1.iblk (Ent V) c 2 t (ix1 k) = (V c main_v200 : S4.Idx → EReal) (ix1 k) := congrArg (V c main_v200 : S4.Idx → EReal) (emb2 t k)
theorem ib3 (c : Dev nD) (t : Fin cfg1.N) (k : Fin 4) : Own.K1.iblk (Ent V) c 3 t (ix1 k) = (V c main_v205 : S4.Idx → EReal) (ix1 k) := congrArg (V c main_v205 : S4.Idx → EReal) (emb3 t k)
theorem ib4 (c : Dev nD) (t : Fin cfg1.N) (k : Fin 4) : Own.K1.iblk (Ent V) c 4 t (ix1 k) = (V c main_arg2 : S4.Idx → EReal) (ix1 k) := congrArg (V c main_arg2 : S4.Idx → EReal) (emb4 t k)
theorem ib5 (c : Dev nD) (t : Fin cfg1.N) (k : Fin 4) : Own.K1.iblk (Ent V) c 5 t (ix1 k) = (V c main_arg3 : S4.Idx → EReal) (ix1 k) := congrArg (V c main_arg3 : S4.Idx → EReal) (emb5 t k)

set_option maxHeartbeats 1000000 in
/-- What point `t` stores, in every lane: its frame's pooled value. -/
theorem outs (c : Dev nD) (t : Fin cfg1.N) (y : S1x1x128.Idx) :
    Own.K1.outsAt1 (Ix := Unit) (U := UR sig nD τ) (Lvl := ℕ) Variants.none (Ent V) c t y =
      pooledArr (V c main_v0) (V c main_v206) (V c main_v200) (V c main_v205) (V c main_arg2) (V c main_arg3)
        ⟨t.val / 64, by have := N256 t; omega⟩ ⟨t.val % 64, Nat.mod_lt _ (by decide)⟩ := by
  unfold Own.K1.outsAt1
  frame_out
  obtain ⟨y0, y1, y2, rfl⟩ : ∃ (a b : Fin 1) (l : Fin 128), y = Idealize.ShloMosaic.ix3 a b l := ⟨y 0, y 1, y 2, Idealize.ShloMosaic.eq_ix3 y⟩
  pointwise [k1_pay1, k1_pay2, k1_pay3, k1_pay4, k1_pay5, k1_pay6, k1_pay7, k1_pay8, k1_pay9, k1_pay10]
  simp only [ib0, ib1, ib2, ib3, ib4, ib5]
  rfl

/-- Every lane of row `i` of the pooling call's result is frame `i`'s pooled value. -/
theorem arr (c : Dev nD) : (d1 V c).arrAt 6 cfg1.N = fun j : S256x1x128.Idx =>
    pooledArr (V c main_v0) (V c main_v206) (V c main_v200) (V c main_v205) (V c main_arg2) (V c main_arg3)
      ⟨(j 0).val / 64, by have : (j 0).val < 256 := (j 0).isLt; omega⟩ ⟨(j 0).val % 64, Nat.mod_lt _ (by decide)⟩ := by
  refine (d1 V c).arrAt_eq_of_covers 6 _ ((cfg1.win 6).covers_of_indexMap_surj rfl (by decide) fun β => ⟨fun | 0 => ⟨(β 0).val, (β 0).isLt⟩, fun a => ?_⟩) fun t hf y => ?_
  · have h0 := (β 0).isLt; have h1 := (β 1).isLt; have h2 := (β 2).isLt
    match a with
    | ⟨0, _⟩ => show (BitVec.ofNat 32 (β 0).val).toNat = _
                rw [BitVec.toNat_ofNat]; exact Nat.mod_eq_of_lt (by change (β 0).val < 256 at h0; omega)
    | ⟨1, _⟩ => show 0 = (β 1).val; change (β 1).val < 1 at h1; omega
    | ⟨2, _⟩ => show 0 = (β 2).val; change (β 2).val < 1 at h2; omega
  blk_simp
  rw [Own.K1.after1_6]
  refine (outs V c t _).trans ?_
  have h6 : (win1_6.index t) 0 = t.val := by rw [idx6 t]; rfl
  congr 1
  · exact Fin.ext (by show t.val / 64 = win1_6.index t 0 / 64; rw [h6])
  · exact Fin.ext (by show t.val % 64 = win1_6.index t 0 % 64; rw [h6])

end Cert.KernelIdeal.PooledVal
-- ==== Proof.TopkVal.lean ====
/- What the scoring call leaves: every frame's score, and for the eight best and the eight worst frames of each batch their numbers
   and their weights, by rank. -/
module

public import proofs.«01_k».proof.Proof.Stages
public import proofs.«01_k».proof.Proof.Spec
public import proofs.«01_k».proof.Proof.Rank
public import Idealize.ShloMosaic.Lib.Pipeline.ValueKit
public import Idealize.ShloMosaic.Lib.Pipeline.ReadBack

@[expose] public section

set_option maxRecDepth 8000

noncomputable section

namespace Cert.KernelIdeal.TopkVal

open Cert.KernelIdeal Cert.KernelIdeal.Gen Cert.KernelIdeal.Calls Cert.Spec Cert.Rank
open Idealize.ShloMosaic Idealize.ShloMosaic.TcCoe
open Idealize.ShloMosaic.Pipeline (Dat Seg HostSeg RegionSeg)

/-! ## The payloads, read at an index -/

/-- The scores' payload, from the pooled values and the scalars the body reads. -/
theorem pay7 (x : Vec Ideal S4x64 .f32) (a0 a1 a2 a3 a4 a5 a6 a7 b0 b1 b2 b3 b4 b5 b6 b7 c0 c1 c2 c3 c4 c5 c6 c7 d : EReal) :
    k2_pay7 (F := Ideal) (k2_pay2 x) (k2_pay5 (k2_pay2 x) (k2_pay3 x a0 b0 c0 a1 b1 c1) (k2_pay4 x a2 b2) c2 a3 b3 c3 a4 b4 c4) (k2_pay6 (k2_pay2 x) a5 b5)
      c5 a6 b6 c6 a7 b7 c7 d = fun i => score ![a0, a1, a2, a3, a4, a5, a6, a7] ![b0, b1, b2, b3, b4, b5, b6, b7] ![c0, c1, c2, c3, c4, c5, c6, c7] d (x i) := by
  funext i
  obtain ⟨b, t, rfl⟩ : ∃ (b : Fin 4) (t : Fin 64), i = ix2 b t := ⟨i 0, i 1, eq_ix2 i⟩
  pointwise [k2_pay7, k2_pay6, k2_pay5, k2_pay4, k2_pay3, k2_pay2]
  simp only [score, Fin.sum_univ_eight, Matrix.cons_val]

theorem pay8 (v1 v82 v92 : FVec Ideal S4x64 .f32) (v93 v99 v102 v109 v115 v118 v125 v131 : EReal) :
    k2_pay8 (F := Ideal) v1 v82 v92 v93 v99 v102 v109 v115 v118 v125 v131 =
      fun i => Ideal.exp (-(k2_pay7 (F := Ideal) v1 v82 v92 v93 v99 v102 v109 v115 v118 v125 v131 i)) := by
  funext i
  pointwise [k2_pay8]
  rw [zero_sub]

theorem sit (b : BitVec 32) : (FloatOps.sitofp FTy.f32 b : Ideal .f32) = ((b.toInt : ℝ) : EReal) := rfl

theorem fpt (x : Ideal .f32) : FloatOps.fptosi 32 x = Ideal.fptosi 32 x := rfl

/-- A 1-bit word widened and converted is its indicator. -/
theorem ind (p : Prop) [Decidable p] : (FloatOps.sitofp FTy.f32 (BitVec.setWidth 32 (BitVec.ofBool (decide p))) : Ideal .f32) = if p then (1 : EReal) else 0 := by
  rw [sit]
  by_cases h : p <;> simp [h]

/-- A frame's or a rank's number, converted. -/
theorem num (k : ℕ) (h : k < 2 ^ 31) : (FloatOps.sitofp FTy.f32 (BitVec.ofNat 32 k) : Ideal .f32) = ((k : ℝ) : EReal) := by
  have h32 : k < 4294967296 := lt_trans h (by norm_num)
  rw [sit, BitVec.toInt_eq_toNat_of_lt, BitVec.toNat_ofNat, Nat.mod_eq_of_lt h32]
  · push_cast; rfl
  · rw [BitVec.toNat_ofNat, Nat.mod_eq_of_lt h32]; omega

theorem lt_num {a b : ℕ} (ha : a < 64) (hb : b < 64) : IntOp.cmpi CmpIPredicate.slt (BitVec.ofNat 32 a) (BitVec.ofNat 32 b) = BitVec.ofBool (decide (a < b)) := by
  have h : ∀ a b : Fin 64, IntOp.cmpi CmpIPredicate.slt (BitVec.ofNat 32 a.val) (BitVec.ofNat 32 b.val) = BitVec.ofBool (decide (a.val < b.val)) := by decide +kernel
  exact h ⟨a, ha⟩ ⟨b, hb⟩

theorem or_and (p q r : Prop) [Decidable p] [Decidable q] [Decidable r] :
    IntOp.ori (BitVec.ofBool (decide p)) (IntOp.andi (BitVec.ofBool (decide q)) (BitVec.ofBool (decide r))) = BitVec.ofBool (decide (p ∨ (q ∧ r))) := by
  by_cases p <;> by_cases q <;> by_cases r <;> simp_all <;> rfl

open scoped Classical in
/-- Whether frame `t` has rank `k` among the greatest scores. -/
theorem pay16 (s : FVec Ideal S4x64 .f32) (b : Fin 4) (t : Fin 64) (k : Fin 8) :
    k2_pay16 s (Idealize.ShloMosaic.ix3 b t k) = if rk (fun x => s (ix2 b x)) t = k.val then (1 : EReal) else 0 := by
  pointwise [k2_pay16, k2_pay15, k2_pay13, k2_pay11, k2_pay12]
  rw [num k.val (by omega), ind]
  have h : (∑ x : Fin 64, (FloatOps.sitofp FTy.f32 (BitVec.setWidth 32 (IntOp.ori (BitVec.ofBool (decide (s (ix2 b t) < s (ix2 b x))))
      (IntOp.andi (BitVec.ofBool (decide (s (ix2 b x) = s (ix2 b t)))) (IntOp.cmpi CmpIPredicate.slt (BitVec.ofNat 32 x.val) (BitVec.ofNat 32 t.val))))) : Ideal .f32))
      = ((rk (fun x => s (ix2 b x)) t : ℝ) : EReal) := by
    rw [← sum_bef]
    refine Finset.sum_congr rfl fun x _ => ?_
    rw [lt_num x.isLt t.isLt, or_and, ind]
    exact if_congr Iff.rfl rfl rfl
  refine if_congr ?_ rfl rfl
  refine (Eq.congr_left h).trans ?_
  rw [EReal.coe_eq_coe_iff, Nat.cast_inj]

open scoped Classical in
/-- Whether frame `t` has rank `k` among the least scores. -/
theorem pay17 (s : FVec Ideal S4x64 .f32) (b : Fin 4) (t : Fin 64) (k : Fin 8) :
    k2_pay17 s (Idealize.ShloMosaic.ix3 b t k) = if rk (fun x => -(s (ix2 b x) : EReal)) t = k.val then (1 : EReal) else 0 := by
  pointwise [k2_pay17, k2_pay15, k2_pay13, k2_pay11, k2_pay12]
  rw [num k.val (by omega), ind]
  have h : (∑ x : Fin 64, (FloatOps.sitofp FTy.f32 (BitVec.setWidth 32 (IntOp.ori (BitVec.ofBool (decide (s (ix2 b x) < s (ix2 b t))))
      (IntOp.andi (BitVec.ofBool (decide (s (ix2 b x) = s (ix2 b t)))) (IntOp.cmpi CmpIPredicate.slt (BitVec.ofNat 32 x.val) (BitVec.ofNat 32 t.val))))) : Ideal .f32))
      = ((rk (fun x => -(s (ix2 b x) : EReal)) t : ℝ) : EReal) := by
    rw [← sum_bef]
    refine Finset.sum_congr rfl fun x _ => ?_
    rw [lt_num x.isLt t.isLt, or_and, ind]
    refine if_congr ?_ rfl rfl
    unfold bef
    rw [EReal.neg_lt_neg_iff, neg_inj]; rfl
  refine if_congr ?_ rfl rfl
  refine (Eq.congr_left h).trans ?_
  rw [EReal.coe_eq_coe_iff, Nat.cast_inj]

/-- A frame's number read back as an integer. -/
theorem back (t : Fin 64) : FloatOps.fptosi 32 (show Ideal .f32 from ((t.val : ℝ) : EReal)) = BitVec.ofNat 32 t.val := by
  rw [fpt]
  unfold Ideal.fptosi
  rw [Ideal.toIntClamped_coe, if_pos (Nat.cast_nonneg _), Int.floor_natCast, ← BitVec.ofInt_natCast]
  congr 1
  have := t.isLt
  norm_num
  omega

/-- Frames are picked out of the 64 by a rank below 8. -/
abbrev up (k : Fin 8) : Fin 64 := ⟨k.val, by omega⟩

theorem pay21 (s : FVec Ideal S4x64 .f32) (b : Fin 4) (k : Fin 8) :
    k2_pay21 s (ix2 b k) = BitVec.ofNat 32 (sel (fun x => (s (ix2 b x) : EReal)) (up k)).val := by
  pointwise [k2_pay21, k2_pay14]
  rw [← back]
  congr 1
  rw [← sum_rk _ (fun t : Fin 64 => ((t.val : ℝ) : EReal))]
  refine Finset.sum_congr rfl fun x _ => ?_
  rw [num x.val (by omega), pay16]

theorem pay18 (s : FVec Ideal S4x64 .f32) (b : Fin 4) (k : Fin 8) :
    k2_pay1 (k2_pay18 s) (ix2 b k) = BitVec.ofNat 32 (sel (fun x => -(s (ix2 b x) : EReal)) (up k)).val := by
  pointwise [k2_pay1, k2_pay18, k2_pay14]
  rw [← back]
  congr 1
  rw [← sum_rk _ (fun t : Fin 64 => ((t.val : ℝ) : EReal))]
  refine Finset.sum_congr rfl fun x _ => ?_
  rw [num x.val (by omega), pay17]

theorem pay19 (s e : FVec Ideal S4x64 .f32) (b : Fin 4) (k : Fin 8) :
    k2_pay19 s e k2_pay9 (ix2 b k) = Ideal.div 1 (1 + e (ix2 b (sel (fun x => (s (ix2 b x) : EReal)) (up k)))) := by
  pointwise [k2_pay19, k2_pay10, k2_pay9]
  rw [← sum_rk _ (fun t : Fin 64 => Ideal.div 1 (1 + e (ix2 b t)))]
  refine Finset.sum_congr rfl fun x _ => ?_
  rw [pay16]

theorem pay20 (s e : FVec Ideal S4x64 .f32) (b : Fin 4) (k : Fin 8) :
    k2_pay20 s e k2_pay9 (ix2 b k) = Ideal.div 1 (1 + e (ix2 b (sel (fun x => -(s (ix2 b x) : EReal)) (up k)))) := by
  pointwise [k2_pay20, k2_pay10, k2_pay9]
  rw [← sum_rk _ (fun t : Fin 64 => Ideal.div 1 (1 + e (ix2 b t)))]
  refine Finset.sum_congr rfl fun x _ => ?_
  rw [pay17]

/-! ## The windows' blocks: each is its whole array -/

variable (V : Dev nD → Valuation τ sig (Elt Ideal)) (c : Dev nD)

/-- The scores, from the pooled values and the two small layers' weights. -/
def sc (P : S4x64.Idx → EReal) (a b d : S8.Idx → EReal) (e : S1.Idx → EReal) (i : S4x64.Idx) : EReal :=
  score (fun j => a (ix1 j)) (fun j => b (ix1 j)) (fun j => d (ix1 j)) (e (ix1 0)) (P i)

theorem ix20 : ∀ t : Fin cfg2.N, win2_0.index t = ![0, 0] := by decide +kernel
theorem ix21 : ∀ t : Fin cfg2.N, win2_1.index t = ![0] := by decide +kernel
theorem ix22 : ∀ t : Fin cfg2.N, win2_2.index t = ![0] := by decide +kernel
theorem ix23 : ∀ t : Fin cfg2.N, win2_3.index t = ![0] := by decide +kernel
theorem ix24 : ∀ t : Fin cfg2.N, win2_4.index t = ![0] := by decide +kernel

theorem ib0 (t : Fin cfg2.N) (i : S4x64.Idx) : Own.K2.iblk (Ent V) c 0 t i = (V c main_v210 : S4x64.Idx → EReal) i := by
  obtain ⟨b, q, rfl⟩ : ∃ (b : Fin 4) (q : Fin 64), i = ix2 b q := ⟨i 0, i 1, eq_ix2 i⟩
  exact congrArg (V c main_v210 : S4x64.Idx → EReal) (by blk_ext! [ix20 t] : (win2_0.blk t).view.emb (ix2 b q) = (ix2 b q : S4x64.Idx))
theorem ib1 (t : Fin cfg2.N) (j : Fin 8) : Own.K2.iblk (Ent V) c 1 t (ix1 j) = (V c main_v211 : S8.Idx → EReal) (ix1 j) :=
  congrArg (V c main_v211 : S8.Idx → EReal) (by blk_ext! [ix21 t] : (win2_1.blk t).view.emb (ix1 j) = (ix1 j : S8.Idx))
theorem ib2 (t : Fin cfg2.N) (j : Fin 8) : Own.K2.iblk (Ent V) c 2 t (ix1 j) = (V c main_arg5 : S8.Idx → EReal) (ix1 j) :=
  congrArg (V c main_arg5 : S8.Idx → EReal) (by blk_ext! [ix22 t] : (win2_2.blk t).view.emb (ix1 j) = (ix1 j : S8.Idx))
theorem ib3 (t : Fin cfg2.N) (j : Fin 8) : Own.K2.iblk (Ent V) c 3 t (ix1 j) = (V c main_v212 : S8.Idx → EReal) (ix1 j) :=
  congrArg (V c main_v212 : S8.Idx → EReal) (by blk_ext! [ix23 t] : (win2_3.blk t).view.emb (ix1 j) = (ix1 j : S8.Idx))
theorem ib4 (t : Fin cfg2.N) (j : Fin 1) : Own.K2.iblk (Ent V) c 4 t (ix1 j) = (V c main_arg7 : S1.Idx → EReal) (ix1 j) :=
  congrArg (V c main_arg7 : S1.Idx → EReal) (by blk_ext! [ix24 t] : (win2_4.blk t).view.emb (ix1 j) = (ix1 j : S1.Idx))

/-- Eight one-element loads of an array of eight are the array. -/
theorem ld8 (x : Vec Ideal S8 .f32) (h : 0 < S1.numel) :
    ![View.ld x (Rect.unit ![0] ![1] inb_S8_S1_0) (Shape.Idx.first h), View.ld x (Rect.unit ![1] ![1] inb_S8_S1_1) (Shape.Idx.first h),
      View.ld x (Rect.unit ![2] ![1] inb_S8_S1_2) (Shape.Idx.first h), View.ld x (Rect.unit ![3] ![1] inb_S8_S1_3) (Shape.Idx.first h),
      View.ld x (Rect.unit ![4] ![1] inb_S8_S1_4) (Shape.Idx.first h), View.ld x (Rect.unit ![5] ![1] inb_S8_S1_5) (Shape.Idx.first h),
      View.ld x (Rect.unit ![6] ![1] inb_S8_S1_6) (Shape.Idx.first h), View.ld x (Rect.unit ![7] ![1] inb_S8_S1_7) (Shape.Idx.first h)] =
      fun j : Fin 8 => x (ix1 j) := by
  funext j
  fin_cases j <;> exact congrArg x (funext fun a => by match a with | 0 => rfl)

theorem score_congr {a a' b b' d d' : Fin 8 → EReal} {e p : EReal} (ha : a = a') (hb : b = b') (hd : d = d') : score a b d e p = score a' b' d' e p := by
  rw [ha, hb, hd]

set_option maxHeartbeats 1000000 in
theorem outs5 (t : Fin cfg2.N) :
    (Own.K2.outsAt2 (Ix := Unit) (U := UR sig nD τ) (Lvl := ℕ) Variants.none (Ent V) c t).1 =
      sc (V c main_v210) (V c main_v211) (V c main_arg5) (V c main_v212) (V c main_arg7) := by
  funext y
  unfold Own.K2.outsAt2
  frame_out
  simp only [pay7, read_unread_whole]
  refine (score_congr (ld8 _ (by decide)) (ld8 _ (by decide)) (ld8 _ (by decide))).trans ?_
  simp only [ib0, ib1, ib2, ib3]
  rw [show Shape.Idx.first _ = (ix1 0 : S1.Idx) from funext fun a => (by match a with | 0 => exact Fin.ext rfl), ib4]
  rfl

set_option maxHeartbeats 1000000 in
theorem outs6 (t : Fin cfg2.N) (b : Fin 4) (n : Fin 16) :
    (Own.K2.outsAt2 (Ix := Unit) (U := UR sig nD τ) (Lvl := ℕ) Variants.none (Ent V) c t).2.1 (ix2 b n) =
      BitVec.ofNat 32 (pick (fun x => sc (V c main_v210) (V c main_v211) (V c main_arg5) (V c main_v212) (V c main_arg7) (ix2 b x)) n).val := by
  have hs := outs5 V c t
  unfold Own.K2.outsAt2 at hs ⊢
  revert hs
  frame_out
  simp only [pay7, read_unread_whole]
  intro hs
  rw [hs]
  clear hs
  canon_tiles x h
  all_goals
    obtain ⟨b', k, rfl⟩ : ∃ (b' : Fin 4) (k : Fin 8), x = ix2 b' k := ⟨x 0, x 1, eq_ix2 x⟩
    obtain rfl : b = b' := Fin.ext h0
    replace h1 : n.val = _ := h1
  · rw [pay18, pick, if_neg (by rw [h1]; omega)]
    exact congrArg (fun z => BitVec.ofNat 32 (sel _ z).val) (Fin.ext (by show k.val = n.val - 8; rw [h1]; show k.val = 8 + k.val - 8; omega))
  · rw [pay21, pick, if_pos (by rw [h1]; exact k.isLt)]
    exact congrArg (fun z => BitVec.ofNat 32 (sel _ z).val) (Fin.ext h1.symm)

set_option maxHeartbeats 1000000 in
theorem outs7 (t : Fin cfg2.N) (b : Fin 4) (n : Fin 16) :
    (Own.K2.outsAt2 (Ix := Unit) (U := UR sig nD τ) (Lvl := ℕ) Variants.none (Ent V) c t).2.2 (ix2 b n) =
      wgt (sc (V c main_v210) (V c main_v211) (V c main_arg5) (V c main_v212) (V c main_arg7)
        (ix2 b (pick (fun x => sc (V c main_v210) (V c main_v211) (V c main_arg5) (V c main_v212) (V c main_arg7) (ix2 b x)) n))) := by
  have hs := outs5 V c t
  unfold Own.K2.outsAt2 at hs ⊢
  revert hs
  frame_out
  simp only [pay8, pay7, read_unread_whole]
  intro hs
  have hs' := fun i => congrFun hs i
  beta_reduce at hs'
  rw [hs]
  simp only [hs']
  clear hs hs'
  canon_tiles x h
  all_goals
    obtain ⟨b', k, rfl⟩ : ∃ (b' : Fin 4) (k : Fin 8), x = ix2 b' k := ⟨x 0, x 1, eq_ix2 x⟩
    obtain rfl : b = b' := Fin.ext h0
    replace h1 : n.val = _ := h1
  · rw [pay20, pick, if_neg (by rw [h1]; omega)]
    exact congrArg (fun z => wgt (sc _ _ _ _ _ (ix2 b (sel _ z)))) (Fin.ext (by show k.val = n.val - 8; rw [h1]; show k.val = 8 + k.val - 8; omega))
  · rw [pay19, pick, if_pos (by rw [h1]; exact k.isLt)]
    exact congrArg (fun z => wgt (sc _ _ _ _ _ (ix2 b (sel _ z)))) (Fin.ext h1.symm)

/-! ## The arrays the call leaves -/

/-- The scores of the call's operands. -/
abbrev scV (i : S4x64.Idx) : EReal := sc (V c main_v210) (V c main_v211) (V c main_arg5) (V c main_v212) (V c main_arg7) i

theorem arr5 : (d2 V c).arrAt 5 cfg2.N = fun j : S4x64.Idx => scV V c j := by
  refine (d2 V c).arrAt_eq_of_after_last 5 t2_0 (by decide +kernel) _ fun j => ?_
  obtain ⟨b, q, rfl⟩ : ∃ (b : Fin 4) (q : Fin 64), j = ix2 b q := ⟨j 0, j 1, eq_ix2 j⟩
  blk_simp
  exact (congrFun (Own.K2.after2_5 _ _ _ c _) (ix2 b q)).trans (congrFun (outs5 V c t2_0) (ix2 b q))

theorem arr6 : (d2 V c).arrAt 6 cfg2.N = fun j : S4x16.Idx => BitVec.ofNat 32 (pick (fun x => scV V c (ix2 (j 0) x)) (j 1)).val := by
  refine (d2 V c).arrAt_eq_of_after_last 6 t2_0 (by decide +kernel) _ fun j => ?_
  obtain ⟨b, q, rfl⟩ : ∃ (b : Fin 4) (q : Fin 16), j = ix2 b q := ⟨j 0, j 1, eq_ix2 j⟩
  blk_simp
  exact (congrFun (Own.K2.after2_6 _ _ _ c _) (ix2 b q)).trans (outs6 V c t2_0 b q)

theorem arr7 : (d2 V c).arrAt 7 cfg2.N = fun j : S4x16.Idx => wgt (scV V c (ix2 (j 0) (pick (fun x => scV V c (ix2 (j 0) x)) (j 1)))) := by
  refine (d2 V c).arrAt_eq_of_after_last 7 t2_0 (by decide +kernel) _ fun j => ?_
  obtain ⟨b, q, rfl⟩ : ∃ (b : Fin 4) (q : Fin 16), j = ix2 b q := ⟨j 0, j 1, eq_ix2 j⟩
  blk_simp
  exact (congrFun (Own.K2.after2_7 _ _ _ c _) (ix2 b q)).trans (outs7 V c t2_0 b q)

end Cert.KernelIdeal.TopkVal
-- ==== Proof.GatherVal.lean ====
/- What the gather call leaves: at each batch and each of its sixteen places, the frame the table names there, put through the
   per-channel map and scaled by the place's weight. -/
module

public import proofs.«01_k».proof.Proof.Stages
public import proofs.«01_k».proof.Proof.Spec
public import Idealize.ShloMosaic.Lib.Pipeline.ValueKit
public import Idealize.ShloMosaic.Lib.Pipeline.Covers

@[expose] public section

set_option maxRecDepth 8000

noncomputable section

namespace Cert.KernelIdeal.GatherVal

open Cert.KernelIdeal Cert.KernelIdeal.Gen Cert.KernelIdeal.Calls Cert.Spec
open Idealize.ShloMosaic Idealize.ShloMosaic.TcCoe
open Idealize.ShloMosaic.Pipeline (Dat Seg HostSeg RegionSeg)

/-! ## The payloads, read at a pixel -/

section payloads

variable (X : Vec Ideal S1x3x1x392x128 .f32) (f w0 w1 w2 mu sd ga be : EReal)

/-- The per-channel map at a pixel of a frame, scaled. -/
def at_ (x : S1x1x1x392x128.Idx) : EReal :=
  nrm w0 w1 w2 mu sd ga be (X (ix5 0 0 0 (x 3) (x 4))) (X (ix5 0 1 0 (x 3) (x 4))) (X (ix5 0 2 0 (x 3) (x 4))) * f

theorem ex (x : S1x1x1x392x128.Idx) : ∃ (a b d : Fin 1) (p : Fin 392) (q : Fin 128), x = ix5 a b d p q := ⟨x 0, x 1, x 2, x 3, x 4, eq_ix5 x⟩

theorem chan0 (x : S1x1x1x392x128.Idx) : k3_pay4 (F := Ideal) (k3_pay3 f X w0 w1 w2 mu sd ga be) x = at_ X f w0 w1 w2 mu sd ga be x := by
  obtain ⟨a, b, d, p, q, rfl⟩ := ex x
  pointwise [k3_pay4, k3_pay3, k3_pay2]
  rfl

theorem chan1 (x : S1x1x1x392x128.Idx) : k3_pay5 (F := Ideal) f (k3_pay2 X) w0 w1 w2 mu sd ga be x = at_ X f w0 w1 w2 mu sd ga be x := by
  obtain ⟨a, b, d, p, q, rfl⟩ := ex x
  pointwise [k3_pay5, k3_pay2]
  rfl

theorem chan2 (x : S1x1x1x392x128.Idx) : k3_pay7 (F := Ideal) f (k3_pay2 X) (k3_pay6 (k3_pay2 X) w0) w1 w2 mu sd ga be x = at_ X f w0 w1 w2 mu sd ga be x := by
  obtain ⟨a, b, d, p, q, rfl⟩ := ex x
  pointwise [k3_pay7, k3_pay6, k3_pay2]
  rfl

theorem chan3 (x : S1x1x1x392x128.Idx) : k3_pay1 (F := Ideal) f (k3_pay8 (k3_pay2 X) w0 w1) w2 (k3_pay9 (k3_pay2 X)) mu sd ga be x = at_ X f w0 w1 w2 mu sd ga be x := by
  obtain ⟨a, b, d, p, q, rfl⟩ := ex x
  pointwise [k3_pay1, k3_pay9, k3_pay8, k3_pay2]
  rfl

end payloads

/-- The point's place in the table of weights. -/
theorem off1 (i : grid3.Coords) : k3_off1 i = ![(i 0).val, (i 1).val] := by
  have h0 : (i 0).val < 4 := (i 0).isLt
  have h1 : (i 1).val < 16 := (i 1).isLt
  funext a
  match a with
  | 0 => exact Nat.mod_eq_of_lt (by omega)
  | 1 => exact Nat.mod_eq_of_lt (by omega)

theorem off2 (i : grid3.Coords) : ∀ a : Fin 2, k3_off1 i a = ((ix2 (i 0) (i 1) : S4x16.Idx) a).val := by
  rw [off1]
  intro a
  match a with
  | 0 => rfl
  | 1 => rfl

/-- A one-element load reads the element its offsets name. -/
theorem ldk {s : Shape} (x : Vec Ideal s .f32) (k : s.Idx) {off size : Fin s.rank → ℕ} {inb} {h} (e : ∀ a, off a = (k a).val) :
    View.ld x (Rect.unit (s := s) off size inb) (Shape.Idx.first h) = x k :=
  congrArg x (funext fun a => Fin.ext (by show off a + 1 * 0 = _; rw [e]; rfl))

theorem scaled {w0 w1 w2 mu sd ga be f w0' w1' w2' mu' sd' ga' be' f' x0 x1 x2 : EReal} (h0 : w0 = w0') (h1 : w1 = w1') (h2 : w2 = w2') (h3 : mu = mu') (h4 : sd = sd')
    (h5 : ga = ga') (h6 : be = be') (h7 : f = f') : nrm w0 w1 w2 mu sd ga be x0 x1 x2 * f = nrm w0' w1' w2' mu' sd' ga' be' x0 x1 x2 * f' := by
  rw [h0, h1, h2, h3, h4, h5, h6, h7]

set_option maxHeartbeats 1000000 in
/-- One grid point, on any operands. -/
theorem outA (c : Dev nD) (i : grid3.Coords) (arg3 : Memref sig .tc .vmem S1x3x1x392x128 .f32) (harg3 : arg3.IsWhole) (arg4 : Memref sig .tc .smem S4x16 .f32) (harg4 : arg4.IsWhole)
    (arg5 : Memref sig .tc .smem S12 .f32) (harg5 : arg5.IsWhole) (arg6 : Memref sig .tc .smem S4 .f32) (harg6 : arg6.IsWhole) (arg7 : Memref sig .tc .smem S4 .f32) (harg7 : arg7.IsWhole)
    (arg8 : Memref sig .tc .smem S4 .f32) (harg8 : arg8.IsWhole) (arg9 : Memref sig .tc .smem S4 .f32) (harg9 : arg9.IsWhole) (arg10 : Memref sig .tc .vmem S1x4x1x392x128 .f32) (harg10 : arg10.IsWhole)
    (x0 : Vec Ideal S1x3x1x392x128 .f32) (x1 : Vec Ideal S4x16 .f32) (x2 : Vec Ideal S12 .f32) (x3 : Vec Ideal S4 .f32) (x4 : Vec Ideal S4 .f32) (x5 : Vec Ideal S4 .f32) (x6 : Vec Ideal S4 .f32)
    (xt0 : K3.TbBuf3 (F := Ideal) c K3.tbM3_0) (o : Fin 4) (p : Fin 392) (q : Fin 128) :
    K3.out3_A_7 (Ix := Unit) (U := UR sig nD τ) (Lvl := ℕ) Variants.none c i arg3 harg3 arg4 harg4 arg5 harg5 arg6 harg6 arg7 harg7 arg8 harg8 arg9 harg9 arg10 harg10 x0 x1 x2 x3 x4 x5 x6 xt0
        (ix5 0 o 0 p q) = pix x2 x3 x4 x5 x6 o (x0 (ix5 0 0 0 p q)) (x0 (ix5 0 1 0 p q)) (x0 (ix5 0 2 0 p q)) * x1 (ix2 (i 0) (i 1)) := by
  frame_out
  canon_tiles x h
  all_goals simp only [Memref.IsWhole.read_unread, chan0, chan1, chan2, chan3]
  all_goals
    obtain ⟨a, b, d, p', q', rfl⟩ := ex x
    obtain rfl : p = p' := Fin.ext h3
    obtain rfl : q = q' := Fin.ext h4
    obtain rfl : b = 0 := Subsingleton.elim _ _
  · obtain rfl : o = 3 := Fin.ext h1
    exact scaled (ldk _ (ix1 9) (by decide)) (ldk _ (ix1 10) (by decide)) (ldk _ (ix1 11) (by decide)) (ldk _ (ix1 3) (by decide)) (ldk _ (ix1 3) (by decide))
      (ldk _ (ix1 3) (by decide)) (ldk _ (ix1 3) (by decide)) (ldk _ _ (off2 i))
  · obtain rfl : o = 2 := Fin.ext h1
    exact scaled (ldk _ (ix1 6) (by decide)) (ldk _ (ix1 7) (by decide)) (ldk _ (ix1 8) (by decide)) (ldk _ (ix1 2) (by decide)) (ldk _ (ix1 2) (by decide))
      (ldk _ (ix1 2) (by decide)) (ldk _ (ix1 2) (by decide)) (ldk _ _ (off2 i))
  · obtain rfl : o = 1 := Fin.ext h1
    exact scaled (ldk _ (ix1 3) (by decide)) (ldk _ (ix1 4) (by decide)) (ldk _ (ix1 5) (by decide)) (ldk _ (ix1 1) (by decide)) (ldk _ (ix1 1) (by decide))
      (ldk _ (ix1 1) (by decide)) (ldk _ (ix1 1) (by decide)) (ldk _ _ (off2 i))
  · obtain rfl : o = 0 := Fin.ext h1
    exact scaled (ldk _ (ix1 0) (by decide)) (ldk _ (ix1 1) (by decide)) (ldk _ (ix1 2) (by decide)) (ldk _ (ix1 0) (by decide)) (ldk _ (ix1 0) (by decide))
      (ldk _ (ix1 0) (by decide)) (ldk _ (ix1 0) (by decide)) (ldk _ _ (off2 i))

/-! ## The windows' blocks -/

variable (V : Dev nD → Valuation τ sig (Elt Ideal)) (c : Dev nD) (a : (pcfg3 (F := Ideal)).Adm)

section blocks

variable (t : Fin (cfg3 a).N)

/-- The batch and the place of a grid point. -/
abbrev bat : Fin 4 := grid3.coords t 0
abbrev plc : Fin 16 := grid3.coords t 1

theorem word_small {n k : ℕ} (h : n < k) (hk : k ≤ 4294967296) : (BitVec.ofNat 32 n).toNat = n := by
  rw [BitVec.toNat_ofNat]; exact Nat.mod_eq_of_lt (by omega)

theorem idx0 (f : Fin 64) (h : (a.1 0 (ix2 (bat a t) (plc a t) : S4x16.Idx) : BitVec 32) = BitVec.ofNat 32 f.val) :
    ((cfg3 a).win 0).index t = ![(bat a t).val, 0, f.val, 0, 0] := by
  have hb := (bat a t).isLt
  have hp := (plc a t).isLt
  refine funext fun (i : Fin 5) => ?_
  match i with
  | 0 => exact word_small hb (by norm_num)
  | 1 => rfl
  | 2 =>
    refine Eq.trans (congrArg BitVec.toNat ((congrArg (a.1 0) (funext fun (x : Fin 2) => ?_)).trans h)) (word_small f.isLt (by norm_num))
    match x with
    | 0 => exact Fin.ext (word_small hb (by norm_num))
    | 1 => exact Fin.ext (word_small hp (by norm_num))
  | 3 => rfl
  | 4 => rfl

theorem idx7 : ((cfg3 a).win 7).index t = ![(bat a t).val, 0, (plc a t).val, 0, 0] := by
  have hb := (bat a t).isLt
  have hp := (plc a t).isLt
  refine funext fun (i : Fin 5) => ?_
  match i with
  | 0 => exact word_small hb (by norm_num)
  | 1 => rfl
  | 2 => exact word_small hp (by norm_num)
  | 3 => rfl
  | 4 => rfl

theorem ib0 (f : Fin 64) (h : (a.1 0 (ix2 (bat a t) (plc a t) : S4x16.Idx) : BitVec 32) = BitVec.ofNat 32 f.val) (d : Fin 3) (p : Fin 392) (q : Fin 128) :
    K3.iblk a (Ent V) c 0 t (ix5 0 d 0 p q) = (V c main_v0 : S4x3x64x392x128.Idx → EReal) (ix5 (bat a t) d f p q) :=
  congrArg (V c main_v0 : S4x3x64x392x128.Idx → EReal) (by blk_ext! [idx0 a t f h] : (((cfg3 a).win 0).blk t).view.emb (ix5 0 d 0 p q) = ix5 (bat a t) d f p q)

theorem emb7 (o : Fin 4) (p : Fin 392) (q : Fin 128) : (((cfg3 a).win 7).blk t).view.emb (ix5 0 o 0 p q) = (ix5 (bat a t) o (plc a t) p q : S4x4x16x392x128.Idx) := by
  blk_ext! [idx7 a t]

theorem idx1 : ((cfg3 a).win 1).index t = ![0, 0] := funext fun (i : Fin 2) => match i with | 0 => rfl | 1 => rfl
theorem idx2 : ((cfg3 a).win 2).index t = ![0] := funext fun (i : Fin 1) => match i with | 0 => rfl
theorem idx3 : ((cfg3 a).win 3).index t = ![0] := funext fun (i : Fin 1) => match i with | 0 => rfl
theorem idx4 : ((cfg3 a).win 4).index t = ![0] := funext fun (i : Fin 1) => match i with | 0 => rfl
theorem idx5 : ((cfg3 a).win 5).index t = ![0] := funext fun (i : Fin 1) => match i with | 0 => rfl
theorem idx6 : ((cfg3 a).win 6).index t = ![0] := funext fun (i : Fin 1) => match i with | 0 => rfl

theorem ib1 (b : Fin 4) (n : Fin 16) : K3.iblk a (Ent V) c 1 t (ix2 b n) = (V c main_v213_2 : S4x16.Idx → EReal) (ix2 b n) :=
  congrArg (V c main_v213_2 : S4x16.Idx → EReal) (by blk_ext! [idx1 a t] : (((cfg3 a).win 1).blk t).view.emb (ix2 b n) = ix2 b n)
theorem ib2 : K3.iblk a (Ent V) c 2 t = (V c main_v206 : S12.Idx → EReal) :=
  funext fun k => congrArg (V c main_v206 : S12.Idx → EReal) (by blk_ext! [idx2 a t] : (((cfg3 a).win 2).blk t).view.emb k = k)
theorem ib3 : K3.iblk a (Ent V) c 3 t = (V c main_v200 : S4.Idx → EReal) :=
  funext fun k => congrArg (V c main_v200 : S4.Idx → EReal) (by blk_ext! [idx3 a t] : (((cfg3 a).win 3).blk t).view.emb k = k)
theorem ib4 : K3.iblk a (Ent V) c 4 t = (V c main_v205 : S4.Idx → EReal) :=
  funext fun k => congrArg (V c main_v205 : S4.Idx → EReal) (by blk_ext! [idx4 a t] : (((cfg3 a).win 4).blk t).view.emb k = k)
theorem ib5 : K3.iblk a (Ent V) c 5 t = (V c main_arg2 : S4.Idx → EReal) :=
  funext fun k => congrArg (V c main_arg2 : S4.Idx → EReal) (by blk_ext! [idx5 a t] : (((cfg3 a).win 5).blk t).view.emb k = k)
theorem ib6 : K3.iblk a (Ent V) c 6 t = (V c main_arg3 : S4.Idx → EReal) :=
  funext fun k => congrArg (V c main_arg3 : S4.Idx → EReal) (by blk_ext! [idx6 a t] : (((cfg3 a).win 6).blk t).view.emb k = k)

end blocks

/-- Element `(b, o, n, p, q)` of the gathered result: pixel `(p, q)` of channel `o` of the frame chosen for place
`n` of batch `b`, times the place's weight. -/
def gath (X : S4x3x64x392x128.Idx → EReal) (FW : S4x16.Idx → EReal) (W : S12.Idx → EReal) (MU SD GA BE : S4.Idx → EReal) (tb : Fin 4 → Fin 16 → Fin 64)
    (b : Fin 4) (o : Fin 4) (n : Fin 16) (p : Fin 392) (q : Fin 128) : EReal :=
  pix W MU SD GA BE o (X (ix5 b 0 (tb b n) p q)) (X (ix5 b 1 (tb b n) p q)) (X (ix5 b 2 (tb b n) p q)) * FW (ix2 b n)

theorem pix_congr {W W' : S12.Idx → EReal} {MU MU' SD SD' GA GA' BE BE' : S4.Idx → EReal} {x0 x0' x1 x1' x2 x2' : EReal}
    (h1 : W = W') (h2 : MU = MU') (h3 : SD = SD') (h4 : GA = GA') (h5 : BE = BE') (o : Fin 4) (h6 : x0 = x0') (h7 : x1 = x1') (h8 : x2 = x2') :
    pix W MU SD GA BE o x0 x1 x2 = pix W' MU' SD' GA' BE' o x0' x1' x2' := by subst_vars; rfl

theorem outs (tb : Fin 4 → Fin 16 → Fin 64) (htb : ∀ b n, (a.1 0 (ix2 b n : S4x16.Idx) : BitVec 32) = BitVec.ofNat 32 (tb b n).val)
    (t : Fin (cfg3 a).N) (o : Fin 4) (p : Fin 392) (q : Fin 128) :
    K3.outsAt3 (Ix := Unit) (U := UR sig nD τ) (Lvl := ℕ) Variants.none a (Ent V) c t (ix5 0 o 0 p q) =
      gath (V c main_v0) (V c main_v213_2) (V c main_v206) (V c main_v200) (V c main_v205) (V c main_arg2) (V c main_arg3) tb
        (bat a t) o (plc a t) p q := by
  unfold K3.outsAt3
  exact (outA ..).trans (congrArg₂ (· * ·) (pix_congr (ib2 ..) (ib3 ..) (ib4 ..) (ib5 ..) (ib6 ..) o
    (ib0 V c a t _ (htb _ _) _ _ _) (ib0 V c a t _ (htb _ _) _ _ _) (ib0 V c a t _ (htb _ _) _ _ _)) (ib1 ..))

/-- The same at an index of the stored block, by where it lands in the array. -/
theorem stored (tb : Fin 4 → Fin 16 → Fin 64) (htb : ∀ b n, (a.1 0 (ix2 b n : S4x16.Idx) : BitVec 32) = BitVec.ofNat 32 (tb b n).val)
    (t : Fin (cfg3 a).N) (y : S1x4x1x392x128.Idx) :
    K3.outsAt3 (Ix := Unit) (U := UR sig nD τ) (Lvl := ℕ) Variants.none a (Ent V) c t y =
      (fun j : S4x4x16x392x128.Idx => gath (V c main_v0) (V c main_v213_2) (V c main_v206) (V c main_v200) (V c main_v205) (V c main_arg2) (V c main_arg3) tb
        (j 0) (j 1) (j 2) (j 3) (j 4)) ((((cfg3 a).win 7).blk t).view.emb y) := by
  obtain ⟨y0, o, y2, p, q, rfl⟩ : ∃ (y0 : Fin 1) (o : Fin 4) (y2 : Fin 1) (p : Fin 392) (q : Fin 128), y = ix5 y0 o y2 p q := ⟨y 0, y 1, y 2, y 3, y 4, eq_ix5 y⟩
  obtain rfl := Subsingleton.elim y0 0
  obtain rfl := Subsingleton.elim y2 0
  exact (outs V c a tb htb t o p q).trans (congrArg (fun j : S4x4x16x392x128.Idx => gath (V c main_v0) (V c main_v213_2) (V c main_v206) (V c main_v200) (V c main_v205) (V c main_arg2) (V c main_arg3) tb
        (j 0) (j 1) (j 2) (j 3) (j 4)) (emb7 a t o p q)).symm

/-- The blocks the calls' points store fill the array. -/
theorem covers7 : ((cfg3 a).win 7).Covers := by
  refine ((cfg3 a).win 7).covers_of_indexMap_surj rfl (fun (x : Fin 5) => ?_) fun β => ?_
  · match x with
    | ⟨0, _⟩ | ⟨1, _⟩ | ⟨2, _⟩ | ⟨3, _⟩ | ⟨4, _⟩ => exact Nat.succ_pos _
  have h0 : (β (0 : Fin 5)).val < 4 := lt_of_lt_of_eq (β (0 : Fin 5)).isLt (rfl : (4 + 1 - 1) / 1 = 4)
  have h1 : (β (1 : Fin 5)).val < 1 := lt_of_lt_of_eq (β (1 : Fin 5)).isLt (rfl : (4 + 4 - 1) / 4 = 1)
  have h2 : (β (2 : Fin 5)).val < 16 := lt_of_lt_of_eq (β (2 : Fin 5)).isLt (rfl : (16 + 1 - 1) / 1 = 16)
  have h3 : (β (3 : Fin 5)).val < 1 := lt_of_lt_of_eq (β (3 : Fin 5)).isLt (rfl : (392 + 392 - 1) / 392 = 1)
  have h4 : (β (4 : Fin 5)).val < 1 := lt_of_lt_of_eq (β (4 : Fin 5)).isLt (rfl : (128 + 128 - 1) / 128 = 1)
  refine ⟨(fun | 0 => ⟨_, h0⟩ | 1 => ⟨_, h2⟩ : grid3.Coords), fun (x : Fin 5) => ?_⟩
  match x with
  | ⟨0, _⟩ => exact word_small h0 (by norm_num)
  | ⟨1, _⟩ => exact (Nat.lt_one_iff.mp h1).symm
  | ⟨2, _⟩ => exact word_small h2 (by norm_num)
  | ⟨3, _⟩ => exact (Nat.lt_one_iff.mp h3).symm
  | ⟨4, _⟩ => exact (Nat.lt_one_iff.mp h4).symm

/-- The gathering call's result. -/
theorem arr (tb : Fin 4 → Fin 16 → Fin 64) (htb : ∀ b n, (a.1 0 (ix2 b n : S4x16.Idx) : BitVec 32) = BitVec.ofNat 32 (tb b n).val) :
    (d3 a V c).arrAt 7 (cfg3 a).N = fun j : S4x4x16x392x128.Idx =>
      gath (V c main_v0) (V c main_v213_2) (V c main_v206) (V c main_v200) (V c main_v205) (V c main_arg2) (V c main_arg3) tb
        (j 0) (j 1) (j 2) (j 3) (j 4) := by
  refine (d3 a V c).arrAt_eq_of_covers 7 _ (covers7 a) fun t hf y => ?_
  blk_simp
  rw [K3.after3_7]
  exact stored V c a tb htb t y

end Cert.KernelIdeal.GatherVal
-- ==== Proof.KernelVal.lean ====
/- What the kernel's run leaves in its two results, in the problem's words: each call's result from the launched arrays, call by call. -/
module

public import proofs.«01_k».proof.Proof.HostVal
public import proofs.«01_k».proof.Proof.MomentsVal
public import proofs.«01_k».proof.Proof.PooledVal
public import proofs.«01_k».proof.Proof.TopkVal
public import proofs.«01_k».proof.Proof.GatherVal

@[expose] public section

set_option maxRecDepth 8192

noncomputable section

namespace Cert.KernelIdeal.KernelVal

open Cert.KernelIdeal Cert.KernelIdeal.Gen Cert.KernelIdeal.Calls Cert.Spec Cert.Rank
open Idealize.ShloMosaic Idealize.ShloMosaic.TcCoe

variable (m : (ℓ : Loc nD τ sig) → Buf (Elt Ideal) ℓ) (o : Outs (F := Ideal)) (c : Dev nD)

/-! ## The launched arrays, and the statistics the host takes from them -/

abbrev ax : S4x3x64x224x224.Idx → EReal := V0 m c main_arg0
abbrev aw : S4x3.Idx → EReal := V0 m c main_arg1
abbrev aga : S4.Idx → EReal := V0 m c main_arg2
abbrev abe : S4.Idx → EReal := V0 m c main_arg3
abbrev aw1 : S8x1.Idx → EReal := V0 m c main_arg4
abbrev ab1 : S8.Idx → EReal := V0 m c main_arg5
abbrev aw2 : S1x8.Idx → EReal := V0 m c main_arg6
abbrev ab2 : S1.Idx → EReal := V0 m c main_arg7
/-- The kernel's mean of channel `k`, from the moments, -/
def mu (k : Fin 4) : EReal := mean3 (wrow (aw m c) k) (moment (ax m c))
/-- and its standard deviation. -/
def sd (k : Fin 4) : EReal := dev3 (wrow (aw m c) k) (moment (ax m c))

/-! ## What stays as it was -/

theorem keep3 (r : Ref sig .tc) (h3 : r ∉ hostOps1_W := by decide) (h2 : r ∉ ([main_v3] : List (Ref sig .tc)) := by decide) : V3 m o c r = V1 m c r :=
  (V3_of m o c r h3).trans (V2_of m o c r h2)
theorem keep5 (r : Ref sig .tc) (h5 : r ∉ hostOps2_W := by decide) (h4 : r ∉ ([main_v207] : List (Ref sig .tc)) := by decide) : V5 m o c r = V3 m o c r :=
  (V5_of m o c r h5).trans (V4_of m o c r h4)
theorem keep8 (r : Ref sig .tc) (h8 : r ∉ hostOps3_1_W := by decide) (h7 : r ∉ hostOps3_W := by decide)
    (h6 : r ∉ ([main_v213_0, main_v213_1, main_v213_2] : List (Ref sig .tc)) := by decide) : V8 m o c r = V5 m o c r :=
  (V8_of m o c r h8).trans <| (V7_of m o c r h7).trans (V6_of m o c r h6)

/-! ## The moments and the statistics -/

theorem fac_congr {x0 x0' x1 x1' x2 x2' : EReal} (h0 : x0 = x0') (h1 : x1 = x1') (h2 : x2 = x2') (k : Fin 9) : fac x0 x1 x2 k = fac x0' x1' x2' k := by
  subst_vars; rfl

theorem moments (ho : o 2 main_v3 c = out0 m c) : HostVal.mom0 m o c = moment (ax m c) := by
  funext k
  unfold HostVal.mom0 moment
  rw [show (V2 m o c main_v3 : S9x128.Idx → EReal) = out0 m c from (Function.update_self ..).trans ho]
  unfold out0
  rw [MomentsVal.arr]
  refine congrArg (Ideal.div · cnt) (Finset.sum_congr rfl fun b _ => Finset.sum_congr rfl fun t _ => ?_)
  refine Eq.trans (Finset.sum_congr rfl fun p _ => Finset.sum_congr rfl fun q _ => ?_)
    (sum_cuts fun h u => fac (ax m c (ix5 b 0 t h u)) (ax m c (ix5 b 1 t h u)) (ax m c (ix5 b 2 t h u)) k)
  exact fac_congr (HostVal.frames m c b 0 t p q) (HostVal.frames m c b 1 t p q) (HostVal.frames m c b 2 t p q) k

theorem weights2 (k : Fin 4) : wrow (V2 m o c main_v2) k = wrow (aw m c) k :=
  funext fun d => (congrFun (V2_of m o c main_v2 (by decide)) (ix2 k d)).trans (HostVal.weights m c k d)

theorem means (ho : o 2 main_v3 c = out0 m c) (k : Fin 4) : @Eq EReal ((V3 m o c main_v200 : S4.Idx → EReal) (ix1 k)) (mu m c k) := by
  rw [HostVal.means, moments m o c ho, weights2]; rfl
theorem devs (ho : o 2 main_v3 c = out0 m c) (k : Fin 4) : @Eq EReal ((V3 m o c main_v205 : S4.Idx → EReal) (ix1 k)) (sd m c k) := by
  rw [HostVal.devs, moments m o c ho, weights2]; rfl

/-! ## One pixel, as both the pooling and the gathering call compute it -/

/-- Pixel arrays that hold the launched ones, cut into rows of 128, give the problem's pixel. -/
theorem pixel (X : S4x3x64x392x128.Idx → EReal) (W : S12.Idx → EReal) (MU SD GA BE : S4.Idx → EReal)
    (hX : X = V1 m c main_v0) (hW : ∀ (k : Fin 4) (j : Fin 3), W (ix1 ⟨k.val * 3 + j.val, by omega⟩) = aw m c (ix2 k j))
    (hMU : ∀ k : Fin 4, MU (ix1 k) = mu m c k) (hSD : ∀ k : Fin 4, SD (ix1 k) = sd m c k) (hGA : GA = aga m c) (hBE : BE = abe m c)
    (b k : Fin 4) (t : Fin 64) (p : Fin 392) (q : Fin 128) :
    pix W MU SD GA BE k (X (ix5 b 0 t p q)) (X (ix5 b 1 t p q)) (X (ix5 b 2 t p q)) =
      act (ax m c) (aw m c) (mu m c) (sd m c) (aga m c) (abe m c) b k t (row p q) (col p q) := by
  have w0 : W (ix1 ⟨3 * k.val, by omega⟩) = aw m c (ix2 k 0) := (congrArg (fun i => W (ix1 i)) (Fin.ext (by simp; omega))).trans (hW k 0)
  have w1 : W (ix1 ⟨3 * k.val + 1, by omega⟩) = aw m c (ix2 k 1) := (congrArg (fun i => W (ix1 i)) (Fin.ext (by simp; omega))).trans (hW k 1)
  have w2 : W (ix1 ⟨3 * k.val + 2, by omega⟩) = aw m c (ix2 k 2) := (congrArg (fun i => W (ix1 i)) (Fin.ext (by simp; omega))).trans (hW k 2)
  subst hX hGA hBE
  unfold pix act
  rw [w0, w1, w2, hMU, hSD, HostVal.frames, HostVal.frames, HostVal.frames]

theorem flat (k : Fin 4) (j : Fin 3) : @Eq EReal ((V3 m o c main_v206 : S12.Idx → EReal) (ix1 ⟨k.val * 3 + j.val, by omega⟩)) (aw m c (ix2 k j)) :=
  (HostVal.flat m o c k j).trans (congrFun (weights2 m o c k) j)

/-! ## The pooled values, the scores, the choice -/

theorem pooled (ho : o 2 main_v3 c = out0 m c) (ho' : o 4 main_v207 c = out1 m c) (b : Fin 4) (t : Fin 64) :
    @Eq EReal ((V5 m o c main_v210 : S4x64.Idx → EReal) (ix2 b t)) (Spec.pool (ax m c) (aw m c) (mu m c) (sd m c) (aga m c) (abe m c) b t) := by
  rw [HostVal.pooled, show (V4 m o c main_v207 : S256x1x128.Idx → EReal) = out1 m c from (Function.update_self ..).trans ho']
  unfold out1
  rw [PooledVal.arr]
  refine (congrArg₂ (PooledVal.pooledArr (V3 m (outsA m) c main_v0) (V3 m (outsA m) c main_v206) (V3 m (outsA m) c main_v200) (V3 m (outsA m) c main_v205)
    (V3 m (outsA m) c main_arg2) (V3 m (outsA m) c main_arg3)) (Fin.ext ?_ : _ = b) (Fin.ext ?_ : _ = t)).trans ?_
  · show (b.val * 64 + t.val) / 64 = b.val; omega
  · show (b.val * 64 + t.val) % 64 = t.val; omega
  unfold PooledVal.pooledArr Spec.pool
  have px := pixel m c (V3 m (outsA m) c main_v0) (V3 m (outsA m) c main_v206) (V3 m (outsA m) c main_v200) (V3 m (outsA m) c main_v205)
    (V3 m (outsA m) c main_arg2) (V3 m (outsA m) c main_arg3) (keep3 m _ c _) (flat m _ c) (means m _ c (outsA_v3 m 2 c)) (devs m _ c (outsA_v3 m 2 c))
    ((keep3 m _ c _).trans (V1_of m c _ (by decide))) ((keep3 m _ c _).trans (V1_of m c _ (by decide))) b
  refine congrArg (Ideal.div · cntF) (Eq.trans (Finset.sum_congr rfl fun p _ => Finset.sum_congr rfl fun q _ => ?_) (sum_cuts fun h u => _))
  rw [px 0 t p q, px 1 t p q, px 2 t p q, px 3 t p q]

theorem scoreVal (ho : o 2 main_v3 c = out0 m c) (ho' : o 4 main_v207 c = out1 m c) (b : Fin 4) (t : Fin 64) :
    TopkVal.scV (V5 m o) c (ix2 b t) = scores (ax m c) (aw m c) (mu m c) (sd m c) (aga m c) (abe m c) (aw1 m c) (ab1 m c) (aw2 m c) (ab2 m c) b t := by
  unfold TopkVal.scV TopkVal.sc scores
  have k4 : ∀ r : Ref sig .tc, r ∉ ([main_v207] : List (Ref sig .tc)) → r ∉ hostOps1_W → r ∉ ([main_v3] : List (Ref sig .tc)) → r ∉ hostOps0_W → V4 m o c r = V0 m c r :=
    fun r h4 h3 h2 h1 => (V4_of m o c r h4).trans <| (keep3 m o c r h3 h2).trans (V1_of m c r h1)
  have k5 : ∀ r : Ref sig .tc, r ∉ hostOps2_W → r ∉ ([main_v207] : List (Ref sig .tc)) → r ∉ hostOps1_W → r ∉ ([main_v3] : List (Ref sig .tc)) → r ∉ hostOps0_W → V5 m o c r = V0 m c r :=
    fun r h5 h4 h3 h2 h1 => (V5_of m o c r h5).trans (k4 r h4 h3 h2 h1)
  rw [pooled m o c ho ho', k5 main_arg5 (by decide) (by decide) (by decide) (by decide) (by decide), k5 main_arg7 (by decide) (by decide) (by decide) (by decide) (by decide)]
  congr 1
  · exact funext fun j => (HostVal.first m o c j).trans (congrFun (k4 main_arg4 (by decide) (by decide) (by decide) (by decide)) _)
  · exact funext fun j => (HostVal.second m o c j).trans (congrFun (k4 main_arg6 (by decide) (by decide) (by decide) (by decide)) _)

/-- The scores of batch `b`, as the scoring call has them. -/
theorem scoreRow (b : Fin 4) :
    (fun t => TopkVal.scV (V5 m (outsB m)) c (ix2 b t)) = scores (ax m c) (aw m c) (mu m c) (sd m c) (aga m c) (abe m c) (aw1 m c) (ab1 m c) (aw2 m c) (ab2 m c) b :=
  funext fun t => scoreVal m (outsB m) c (outsB_v3 m 2 c) (outsB_v207 m 4 c) b t

/-- The kernel's second result. -/
theorem second (b : Fin 4) (t : Fin 64) : @Eq EReal ((V10 m (outs m) c main_v213_0 : S4x64.Idx → EReal) (ix2 b t))
    (scores (ax m c) (aw m c) (mu m c) (sd m c) (aga m c) (abe m c) (aw1 m c) (ab1 m c) (aw2 m c) (ab2 m c) b t) := by
  rw [V10_of m _ c main_v213_0 (by decide), V9_of m _ c main_v213_0 (by decide), V8_of m _ c main_v213_0 (by decide), V7_of m _ c main_v213_0 (by decide),
    V6_v213_0, outs_v213_0]
  unfold out2s
  rw [TopkVal.arr5]
  exact congrFun (scoreRow m c b) t

/-- The numbers of the chosen frames as the scoring call leaves them. -/
theorem numbers (b : Fin 4) (n : Fin 16) : (out2i m c : S4x16.Idx → BitVec 32) (ix2 b n) =
    BitVec.ofNat 32 (chosen (ax m c) (aw m c) (mu m c) (sd m c) (aga m c) (abe m c) (aw1 m c) (ab1 m c) (aw2 m c) (ab2 m c) b n).val := by
  unfold out2i
  rw [TopkVal.arr6]
  exact congrArg (fun f => BitVec.ofNat 32 (pick f n).val) (scoreRow m c b)

theorem wgt_pick (s : S4x64.Idx → EReal) (b : Fin 4) (n : Fin 16) (f : Fin 64 → EReal) (h : (fun t => s (ix2 b t)) = f) :
    (fun j : S4x16.Idx => wgt (s (ix2 (j 0) (pick (fun x => s (ix2 (j 0) x)) (j 1))))) (ix2 b n) = wgt (f (pick f n)) := by subst h; rfl

/-- Their weights as the scoring call leaves them. -/
theorem chosenWeights (b : Fin 4) (n : Fin 16) : (out2w m c : S4x16.Idx → EReal) (ix2 b n) =
    wgt (scores (ax m c) (aw m c) (mu m c) (sd m c) (aga m c) (abe m c) (aw1 m c) (ab1 m c) (aw2 m c) (ab2 m c) b
      (chosen (ax m c) (aw m c) (mu m c) (sd m c) (aga m c) (abe m c) (aw1 m c) (ab1 m c) (aw2 m c) (ab2 m c) b n)) := by
  unfold out2w
  rw [TopkVal.arr7]
  exact wgt_pick _ b n _ (scoreRow m c b)

/-- The gather's table holds the numbers. -/
theorem choice (a : (pcfg3 (F := Ideal)).Adm) (ha : a = adm3 m) (b : Fin 4) (n : Fin 16) : (a.1 0 (ix2 b n : S4x16.Idx) : BitVec 32) =
    BitVec.ofNat 32 (chosen (ax m 0) (aw m 0) (mu m 0) (sd m 0) (aga m 0) (abe m 0) (aw1 m 0) (ab1 m 0) (aw2 m 0) (ab2 m 0) b n).val := by
  have hn := numbers m 0 b n
  generalize chosen (ax m 0) (aw m 0) (mu m 0) (sd m 0) (aga m 0) (abe m 0) (aw1 m 0) (ab1 m 0) (aw2 m 0) (ab2 m 0) b n = f at hn ⊢
  rw [← outsC_v213_1 m 6] at hn
  have ht := HostVal.table m (outsC m) 0 b n f hn
  have e : (adm3 m).1 = tbl m := rfl
  have e' : ∀ i : S4x16.Idx, tbl m 0 i = V8 m (outsC m) (0 : Dev nD) (Proc.devRef .tc main_v214) i := fun i => rfl
  subst ha
  exact (congrFun (congrFun e 0) _).trans ((e' _).trans ht)

/-- The kernel's first result. -/
theorem first (b k : Fin 4) (n : Fin 16) (h u : Fin 224) : @Eq EReal ((V10 m (outs m) c main_v216 : S4x4x16x224x224.Idx → EReal) (ix5 b k n h u))
    (result (ax m c) (aw m c) (mu m c) (sd m c) (aga m c) (abe m c) (aw1 m c) (ab1 m c) (aw2 m c) (ab2 m c) b k n h u) := by
  obtain rfl := Subsingleton.elim c (0 : Dev nD)
  refine (HostVal.last m (outs m) 0 b k n h u).trans ?_
  have htb := choice m (adm3 m) rfl
  generalize hch : chosen (ax m 0) (aw m 0) (mu m 0) (sd m 0) (aga m 0) (abe m 0) (aw1 m 0) (ab1 m 0) (aw2 m 0) (ab2 m 0) = ch at htb
  refine (congrFun (((Function.update_self ..).trans (outs_v215 m 9 0) : (V9 m (outs m) 0 main_v215 : S4x4x16x392x128.Idx → EReal) = out3 m 0).trans
    (GatherVal.arr (V8 m (outsC m)) 0 (adm3 m) ch htb)) _).trans ?_
  have px := pixel m 0 (V8 m (outsC m) 0 main_v0) (V8 m (outsC m) 0 main_v206) (V8 m (outsC m) 0 main_v200) (V8 m (outsC m) 0 main_v205)
    (V8 m (outsC m) 0 main_arg2) (V8 m (outsC m) 0 main_arg3) ((keep8 m _ 0 _).trans <| (keep5 m _ 0 _).trans (keep3 m _ 0 _))
    (fun k j => (congrFun ((keep8 m _ 0 main_v206).trans (keep5 m _ 0 _)) _).trans (flat m _ 0 k j))
    (fun k => (congrFun ((keep8 m _ 0 main_v200).trans (keep5 m _ 0 _)) _).trans (means m _ 0 (outsC_v3 m 2 0) k))
    (fun k => (congrFun ((keep8 m _ 0 main_v205).trans (keep5 m _ 0 _)) _).trans (devs m _ 0 (outsC_v3 m 2 0) k))
    ((keep8 m _ 0 _).trans <| (keep5 m _ 0 _).trans <| (keep3 m _ 0 _).trans (V1_of m 0 _ (by decide)))
    ((keep8 m _ 0 _).trans <| (keep5 m _ 0 _).trans <| (keep3 m _ 0 _).trans (V1_of m 0 _ (by decide))) b k (ch b n) (brow h u) (bcol h u)
  rw [row_brow, col_brow] at px
  have hw : @Eq EReal ((V8 m (outsC m) 0 main_v213_2 : S4x16.Idx → EReal) (ix2 b n))
      (wgt (scores (ax m 0) (aw m 0) (mu m 0) (sd m 0) (aga m 0) (abe m 0) (aw1 m 0) (ab1 m 0) (aw2 m 0) (ab2 m 0) b (ch b n))) := by
    rw [V8_of m _ 0 main_v213_2 (by decide), V7_of m _ 0 main_v213_2 (by decide), V6_v213_2, outsC_v213_2, ← hch]
    exact chosenWeights m 0 b n
  unfold result
  rw [hch]
  exact congrArg₂ (· * ·) px hw

end Cert.KernelIdeal.KernelVal
-- ==== Proof.Stats.lean ====
/- The one-pass statistics are the two-pass ones: where the embedded channel is finite, its mean and variance computed from the nine
   moments of the three input channels are its mean and its mean squared distance from it; where some embedded pixel is infinite both
   standard deviations are infinite, and dividing by either gives 0. -/
module

public import proofs.«01_k».proof.Proof.Problem
public import Mathlib.Algebra.BigOperators.Field
public import Mathlib.Tactic.FieldSimp
public import Mathlib.Tactic.LinearCombination

@[expose] public section

noncomputable section

namespace Cert.Stats

open Idealize.ShloMosaic Cert.KernelIdeal Cert.Spec

/-! ## Over the reals -/

section real

variable {ι : Type} [Fintype ι] (N : ℝ) (x0 x1 x2 : ι → ℝ) (w0 w1 w2 : ℝ)

/-- The embedded pixel. -/
def emb (i : ι) : ℝ := x0 i * w0 + x1 i * w1 + x2 i * w2

theorem mean_real : w0 * ((∑ i, x0 i) / N) + w1 * ((∑ i, x1 i) / N) + w2 * ((∑ i, x2 i) / N) = (∑ i, emb x0 x1 x2 w0 w1 w2 i) / N := by
  simp only [emb, Finset.sum_add_distrib, ← Finset.sum_mul]
  ring

theorem square_real : w0 * w0 * ((∑ i, x0 i * x0 i) / N) + w0 * w1 * ((∑ i, x0 i * x1 i) / N) + w0 * w2 * ((∑ i, x0 i * x2 i) / N)
      + w1 * w0 * ((∑ i, x0 i * x1 i) / N) + w1 * w1 * ((∑ i, x1 i * x1 i) / N) + w1 * w2 * ((∑ i, x1 i * x2 i) / N)
      + w2 * w0 * ((∑ i, x0 i * x2 i) / N) + w2 * w1 * ((∑ i, x1 i * x2 i) / N) + w2 * w2 * ((∑ i, x2 i * x2 i) / N)
    = (∑ i, emb x0 x1 x2 w0 w1 w2 i * emb x0 x1 x2 w0 w1 w2 i) / N := by
  have e : ∀ i, emb x0 x1 x2 w0 w1 w2 i * emb x0 x1 x2 w0 w1 w2 i = x0 i * x0 i * (w0 * w0) + x0 i * x1 i * (2 * w0 * w1) + x0 i * x2 i * (2 * w0 * w2)
      + x1 i * x1 i * (w1 * w1) + x1 i * x2 i * (2 * w1 * w2) + x2 i * x2 i * (w2 * w2) := fun i => by unfold emb; ring
  simp only [e, Finset.sum_add_distrib, ← Finset.sum_mul]
  ring

/-- The mean squared distance from the mean is the mean square less the mean's square. -/
theorem variance_real (hN : N = Fintype.card ι) (h0 : N ≠ 0) (y : ι → ℝ) :
    (∑ i, (y i - (∑ k, y k) / N) * (y i - (∑ k, y k) / N)) / N = (∑ i, y i * y i) / N - (∑ k, y k) / N * ((∑ k, y k) / N) := by
  generalize hm : (∑ k, y k) / N = μ
  have hs : ∑ k, y k = μ * N := by rw [← hm]; field_simp
  have e : ∀ i, (y i - μ) * (y i - μ) = y i * y i - y i * (2 * μ) + μ * μ := fun i => by ring
  simp only [e, Finset.sum_add_distrib, Finset.sum_sub_distrib, ← Finset.sum_mul, hs, Finset.sum_const, Finset.card_univ, nsmul_eq_mul, ← hN]
  field_simp
  ring

end real

/-! ## Over the extended reals -/

/-- All pixels of all frames. -/
abbrev Px : Type := Fin 4 × Fin 64 × Fin 224 × Fin 224

theorem cnt_eq : cnt = ((12845056 : ℝ) : EReal) := by
  unfold cnt
  simp [Ideal.ofBits, Ideal.ieee, -EReal.coe_mul]

theorem div_cnt (a : ℝ) : Ideal.div (a : EReal) cnt = ((a / 12845056 : ℝ) : EReal) := by
  rw [cnt_eq, Ideal.div_coe (by norm_num), ← EReal.coe_mul]
  exact congrArg _ (by ring)

theorem div_cnt_zero : Ideal.div 0 cnt = 0 := by
  rw [cnt_eq, Ideal.div_coe (by norm_num), zero_mul]

/-- A sum of finite numbers is the finite sum. -/
theorem coe_total {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ### One channel, from the three input channels `X` and its three weights `W` -/

section channel

variable (X : Fin 3 → Px → EReal) (W : Fin 3 → EReal)

/-- The nine moments. -/
def mom (k : Fin 9) : EReal := Ideal.div (∑ i : Px, fac (X 0 i) (X 1 i) (X 2 i) k) cnt
/-- The embedded pixels, -/
def px (i : Px) : EReal := X 0 i * W 0 + X 1 i * W 1 + X 2 i * W 2
/-- their mean, -/
def mean2 : EReal := Ideal.div (∑ i : Px, px X W i) cnt
/-- and their standard deviation, by the mean squared distance from the mean. -/
def dev2 : EReal := Ideal.sqrt (Ideal.div (∑ i : Px, (px X W i - mean2 X W) * (px X W i - mean2 X W)) cnt + eps)

end channel

/-! ### Finite channels -/

section finite

variable (X : Fin 3 → Px → ℝ) (W : Fin 3 → ℝ)

/-- The finite channels and weights, among the extended reals. -/
abbrev up (d : Fin 3) (i : Px) : EReal := (X d i : EReal)
abbrev upw (d : Fin 3) : EReal := (W d : EReal)

theorem mom_coe (k : Fin 9) (g : Px → ℝ) (hg : ∀ i, fac (X 0 i : EReal) (X 1 i : EReal) (X 2 i : EReal) k = (g i : EReal)) :
    mom (up X) k = (((∑ i, g i) / 12845056 : ℝ) : EReal) := by
  unfold mom
  simp only [hg, ← coe_total, div_cnt]

theorem px_coe (i : Px) : px (up X) (upw W) i = (emb (X 0) (X 1) (X 2) (W 0) (W 1) (W 2) i : EReal) := by
  unfold px emb
  push_cast
  rfl

theorem mean2_coe : mean2 (up X) (upw W) = (((∑ i, emb (X 0) (X 1) (X 2) (W 0) (W 1) (W 2) i) / 12845056 : ℝ) : EReal) := by
  unfold mean2
  simp only [px_coe, ← coe_total, div_cnt]

/-- The mean from the moments is the mean. -/
theorem mean_finite : mean3 (upw W) (mom (up X)) = mean2 (up X) (upw W) := by
  rw [mean2_coe, ← mean_real]
  unfold mean3
  rw [mom_coe X 0 (X 0) fun _ => rfl, mom_coe X 1 (X 1) fun _ => rfl, mom_coe X 2 (X 2) fun _ => rfl]
  push_cast
  rfl

/-- The mean square from the moments is the mean square. -/
theorem square_finite : sq3 (upw W) (mom (up X)) =
    (((∑ i, emb (X 0) (X 1) (X 2) (W 0) (W 1) (W 2) i * emb (X 0) (X 1) (X 2) (W 0) (W 1) (W 2) i) / 12845056 : ℝ) : EReal) := by
  rw [← square_real]
  have pr : ∀ (a b : Fin 3) (i : Px), (X a i : EReal) * (X b i : EReal) = ((X a i * X b i : ℝ) : EReal) := fun _ _ _ => (EReal.coe_mul _ _).symm
  unfold sq3
  rw [mom_coe X 3 (fun i => X 0 i * X 0 i) fun i => pr 0 0 i, mom_coe X 4 (fun i => X 0 i * X 1 i) fun i => pr 0 1 i,
    mom_coe X 5 (fun i => X 0 i * X 2 i) fun i => pr 0 2 i, mom_coe X 6 (fun i => X 1 i * X 1 i) fun i => pr 1 1 i,
    mom_coe X 7 (fun i => X 1 i * X 2 i) fun i => pr 1 2 i, mom_coe X 8 (fun i => X 2 i * X 2 i) fun i => pr 2 2 i]
  push_cast
  rfl

/-- The standard deviation from the moments is the standard deviation. -/
theorem dev_finite : dev3 (upw W) (mom (up X)) = dev2 (up X) (upw W) := by
  have hv := variance_real (12845056 : ℝ) (by simp [Fintype.card_prod]) (by norm_num) (emb (X 0) (X 1) (X 2) (W 0) (W 1) (W 2))
  unfold dev3 dev2
  rw [square_finite, mean_finite, mean2_coe, ← EReal.coe_mul, ← EReal.coe_sub, ← hv]
  simp only [px_coe, ← EReal.coe_sub, ← EReal.coe_mul, ← coe_total, div_cnt]

end finite

/-! ### Infinite numbers -/

/-- An infinite number. -/
def Inf (a : EReal) : Prop := a = ⊤ ∨ a = ⊥

theorem real_of_not_inf {a : EReal} (h : ¬Inf a) : ∃ r : ℝ, a = (r : EReal) := by
  induction a using EReal.rec with
  | coe r => exact ⟨r, rfl⟩
  | top => exact absurd (.inl rfl) h
  | bot => exact absurd (.inr rfl) h

theorem inf_add {a : EReal} (h : Inf a) (b : EReal) : Inf (a + b) := by
  rcases h with rfl | rfl
  · induction b using EReal.rec with
    | coe r => exact .inl (EReal.top_add_coe r)
    | top => exact .inl rfl
    | bot => exact .inr rfl
  · exact .inr (EReal.bot_add b)

theorem inf_neg {a : EReal} (h : Inf a) : Inf (-a) := by
  rcases h with rfl | rfl
  · exact .inr rfl
  · exact .inl rfl

theorem inf_sub_left {a : EReal} (h : Inf a) (b : EReal) : Inf (a - b) := by
  rw [sub_eq_add_neg]; exact inf_add h _

theorem inf_sub_right {b : EReal} (h : Inf b) (a : EReal) : Inf (a - b) := by
  rw [sub_eq_add_neg, add_comm]; exact inf_add (inf_neg h) _

theorem inf_sum {ι : Type} [Fintype ι] (f : ι → EReal) (i : ι) (h : Inf (f i)) : Inf (∑ k, f k) := by
  classical
  rw [← Finset.add_sum_erase _ f (Finset.mem_univ i)]
  exact inf_add h _

theorem inf_mul {a b : EReal} (h : Inf a) (hb : b ≠ 0) : Inf (a * b) := by
  rcases lt_or_gt_of_ne hb with hb | hb
  · rcases h with rfl | rfl
    · exact .inr (EReal.top_mul_of_neg hb)
    · exact .inl (EReal.bot_mul_of_neg hb)
  · rcases h with rfl | rfl
    · exact .inl (EReal.top_mul_of_pos hb)
    · exact .inr (EReal.bot_mul_of_pos hb)

theorem inf_ne_zero {a : EReal} (h : Inf a) : a ≠ 0 := by
  rcases h with rfl | rfl <;> simp

theorem inf_div {a : EReal} (h : Inf a) : Inf (Ideal.div a cnt) := by
  rw [cnt_eq, Ideal.div_coe (by norm_num)]
  exact inf_mul h (by norm_num)

theorem inf_sqrt {a : EReal} (h : Inf a) : Inf (Ideal.sqrt a) := by
  rcases h with rfl | rfl
  · exact .inl rfl
  · exact .inr rfl

/-- Dividing by an infinite number gives 0. -/
theorem div_inf {s : EReal} (h : Inf s) (a : EReal) : Ideal.div a s = 0 := by
  unfold Ideal.div
  rw [if_neg (inf_ne_zero h)]
  rcases h with rfl | rfl <;> simp

theorem square_nonneg (a : EReal) : 0 ≤ a * a := by
  rcases le_total 0 a with h | h
  · exact EReal.mul_nonneg h h
  · rw [← neg_mul_neg]
    exact EReal.mul_nonneg (EReal.neg_nonneg.mpr h) (EReal.neg_nonneg.mpr h)

/-- A mean of squares is not 0 when one of the numbers is not. -/
theorem squares_ne_zero (a : Px → EReal) (i : Px) (h : a i ≠ 0) : Ideal.div (∑ k, a k * a k) cnt ≠ 0 := by
  rw [cnt_eq, Ideal.div_coe (by norm_num)]
  refine mul_ne_zero (fun e => ?_) (by norm_num)
  exact mul_ne_zero h h ((Finset.sum_eq_zero_iff_of_nonneg fun k _ => square_nonneg (a k)).mp e i (Finset.mem_univ i))

/-! ### Channels with a finite embedding -/

/-- A channel `a` with weight `v` counts as the finite `r` with weight `s`: either it is that, or it counts for nothing. -/
def Like (a : Px → EReal) (v : EReal) (r : Px → ℝ) (s : ℝ) : Prop :=
  ((∀ i, a i = (r i : EReal)) ∧ v = (s : EReal)) ∨ ((∀ i, r i = 0) ∧ s = 0 ∧ (v = 0 ∨ ∀ i, a i = 0))

/-- A channel whose weighted pixels are finite counts as a finite one. -/
theorem exists_like (a : Px → EReal) (v : EReal) (h : ∀ i, ¬Inf (a i * v)) : ∃ r s, Like a v r s := by
  by_cases hv : v = 0
  · exact ⟨fun _ => 0, 0, .inr ⟨fun _ => rfl, rfl, .inl hv⟩⟩
  by_cases ha : ∀ i, a i = 0
  · exact ⟨fun _ => 0, 0, .inr ⟨fun _ => rfl, rfl, .inr ha⟩⟩
  obtain ⟨i, hi⟩ := not_forall.mp ha
  obtain ⟨s, hs⟩ := real_of_not_inf fun e => h i (mul_comm v (a i) ▸ inf_mul e hi)
  choose r hr using fun k => real_of_not_inf fun e => h k (inf_mul (b := v) e hv)
  exact ⟨r, s, .inl ⟨hr, hs⟩⟩

section like

variable {a a' : Px → EReal} {v v' : EReal} {r r' : Px → ℝ} {s s' : ℝ}

theorem like_px (h : Like a v r s) (i : Px) : a i * v = (r i : EReal) * (s : EReal) := by
  rcases h with ⟨ha, rfl⟩ | ⟨hr, rfl, h⟩
  · rw [ha]
  · rcases h with rfl | h
    · simp
    · simp [h]

theorem like_sum (h : Like a v r s) : v * Ideal.div (∑ i, a i) cnt = (s : EReal) * Ideal.div (∑ i, (r i : EReal)) cnt := by
  rcases h with ⟨ha, rfl⟩ | ⟨hr, rfl, h⟩
  · simp only [ha]
  · rcases h with rfl | h
    · simp
    · simp [h, div_cnt_zero]

theorem like_pair (h : Like a v r s) (h' : Like a' v' r' s') :
    v * v' * Ideal.div (∑ i, a i * a' i) cnt = (s : EReal) * (s' : EReal) * Ideal.div (∑ i, (r i : EReal) * (r' i : EReal)) cnt := by
  rcases h with ⟨ha, rfl⟩ | ⟨hr, rfl, h⟩
  · rcases h' with ⟨ha', rfl⟩ | ⟨hr', rfl, h'⟩
    · simp only [ha, ha']
    · rcases h' with rfl | h'
      · simp
      · simp [h', div_cnt_zero]
  · rcases h with rfl | h
    · simp
    · simp [h, div_cnt_zero]

end like

/-! ### Any channels -/

section channel

variable (X : Fin 3 → Px → EReal) (W : Fin 3 → EReal)

/-- Where every embedded pixel is finite the two ways agree. -/
theorem agree (h : ∀ i, ¬Inf (px X W i)) : mean3 W (mom X) = mean2 X W ∧ dev3 W (mom X) = dev2 X W := by
  have ht : ∀ d i, ¬Inf (X d i * W d) := fun d i hd => h i <| by
    unfold px
    match d with
    | 0 => exact inf_add (inf_add hd _) _
    | 1 => rw [add_comm (X 0 i * W 0)]; exact inf_add (inf_add hd _) _
    | 2 => rw [add_comm]; exact inf_add hd _
  choose R S hl using fun d => exists_like (X d) (W d) (ht d)
  have hpx : px X W = px (up R) (upw S) := funext fun i => by
    unfold px
    rw [like_px (hl 0), like_px (hl 1), like_px (hl 2)]
  have hm : mean3 W (mom X) = mean3 (upw S) (mom (up R)) :=
    congrArg₂ (fun p q : EReal => p + q) (congrArg₂ (fun p q : EReal => p + q) (like_sum (hl 0)) (like_sum (hl 1))) (like_sum (hl 2))
  have pr (d e : Fin 3) := like_pair (hl d) (hl e)
  have pc (d e : Fin 3) : W e * W d * Ideal.div (∑ i, X d i * X e i) cnt = (S e : EReal) * (S d : EReal) * Ideal.div (∑ i, (R d i : EReal) * (R e i : EReal)) cnt := by
    rw [mul_comm (W e), mul_comm (S e : EReal)]; exact pr d e
  have add {p p' q q' : EReal} (e : p = p') (e' : q = q') : p + q = p' + q' := congrArg₂ _ e e'
  have hs : sq3 W (mom X) = sq3 (upw S) (mom (up R)) :=
    add (add (add (add (add (add (add (add (pr 0 0) (pr 0 1)) (pr 0 2)) (pc 0 1)) (pr 1 1)) (pr 1 2)) (pc 0 2)) (pc 1 2)) (pr 2 2)
  have hd : dev3 W (mom X) = dev3 (upw S) (mom (up R)) := by unfold dev3; rw [hs, hm]
  have h2 : mean2 X W = mean2 (up R) (upw S) := by unfold mean2; rw [hpx]
  exact ⟨by rw [hm, h2, mean_finite], by rw [hd, dev_finite]; unfold dev2; rw [hpx, h2]⟩

/-- Where some embedded pixel is infinite, so is the standard deviation, by the squared distances -/
theorem dev2_inf (i : Px) (h : Inf (px X W i)) : Inf (dev2 X W) := by
  have hd : ∀ k, Inf (px X W k - mean2 X W) := fun k => inf_sub_right (inf_div (inf_sum _ i h)) _
  exact inf_sqrt (inf_add (inf_div (inf_sum _ i (inf_mul (hd i) (inf_ne_zero (hd i))))) _)

/-- and by the moments. -/
theorem dev3_inf (i : Px) (h : Inf (px X W i)) : Inf (dev3 W (mom X)) := by
  have ht : ∃ d, Inf (X d i * W d) := by
    by_contra hn
    rw [not_exists] at hn
    obtain ⟨r0, h0⟩ := real_of_not_inf (hn 0)
    obtain ⟨r1, h1⟩ := real_of_not_inf (hn 1)
    obtain ⟨r2, h2⟩ := real_of_not_inf (hn 2)
    unfold px at h
    rw [h0, h1, h2, ← EReal.coe_add, ← EReal.coe_add] at h
    rcases h with h | h
    · exact EReal.coe_ne_top _ h
    · exact EReal.coe_ne_bot _ h
  obtain ⟨d, hd⟩ := ht
  have hw : W d ≠ 0 := fun e => inf_ne_zero hd (by rw [e, mul_zero])
  have hx : X d i ≠ 0 := fun e => inf_ne_zero hd (by rw [e, zero_mul])
  have key : Inf (W d * W d * Ideal.div (∑ k, X d k * X d k) cnt) := by
    by_cases hi : Inf (W d)
    · exact inf_mul (inf_mul hi hw) (squares_ne_zero (X d) i hx)
    · have hX : Inf (X d i) := by
        by_contra hX
        obtain ⟨p, hp⟩ := real_of_not_inf hX
        obtain ⟨q, hq⟩ := real_of_not_inf hi
        rw [hp, hq, ← EReal.coe_mul] at hd
        rcases hd with hd | hd
        · exact EReal.coe_ne_top _ hd
        · exact EReal.coe_ne_bot _ hd
      rw [mul_comm]
      exact inf_mul (inf_div (inf_sum _ i (inf_mul hX hx))) (mul_ne_zero hw hw)
  refine inf_sqrt (inf_add (inf_sub_left ?_ _) _)
  have radd {a : EReal} (b : EReal) (h : Inf a) : Inf (b + a) := by rw [add_comm]; exact inf_add h _
  unfold sq3
  match d, key with
  | 0, key => exact inf_add (inf_add (inf_add (inf_add (inf_add (inf_add (inf_add (inf_add key _) _) _) _) _) _) _) _
  | 1, key => exact inf_add (inf_add (inf_add (inf_add (radd _ key) _) _) _) _
  | 2, key => exact radd _ key

/-- So the two ways agree, or both divisors are infinite. -/
theorem agree_or : (mean3 W (mom X) = mean2 X W ∧ dev3 W (mom X) = dev2 X W) ∨ (Inf (dev3 W (mom X)) ∧ Inf (dev2 X W)) := by
  by_cases h : ∀ i, ¬Inf (px X W i)
  · exact .inl (agree X W h)
  · obtain ⟨i, hi⟩ := not_forall.mp h
    exact .inr ⟨dev3_inf X W i (not_not.mp hi), dev2_inf X W i (not_not.mp hi)⟩

end channel

/-! ### The arrays -/

variable (x : S4x3x64x224x224.Idx → EReal) (w : S4x3.Idx → EReal)

/-- An embedded pixel of channel `o`. -/
def pixelOf (b o : Fin 4) (t : Fin 64) (h u : Fin 224) : EReal := ∑ d : Fin 3, x (ix5 b d t h u) * w (ix2 o d)
/-- The channel's mean, -/
def meanOf (o : Fin 4) : EReal := Ideal.div (∑ b : Fin 4, ∑ t : Fin 64, ∑ h : Fin 224, ∑ u : Fin 224, pixelOf x w b o t h u) cnt
/-- and its standard deviation, by the mean squared distance from the mean. -/
def devOf (o : Fin 4) : EReal :=
  Ideal.sqrt (Ideal.div (∑ b : Fin 4, ∑ t : Fin 64, ∑ h : Fin 224, ∑ u : Fin 224,
    (pixelOf x w b o t h u - meanOf x w o) * (pixelOf x w b o t h u - meanOf x w o)) cnt + eps)

/-- The input channels' pixels. -/
def chan (d : Fin 3) (i : Px) : EReal := x (ix5 i.1 d i.2.1 i.2.2.1 i.2.2.2)

theorem moment_chan : moment x = mom (chan x) := by
  funext k
  unfold moment mom
  rw [Fintype.sum_prod_type]
  simp only [Fintype.sum_prod_type]
  rfl

theorem pixelOf_px (b o : Fin 4) (t : Fin 64) (h u : Fin 224) : pixelOf x w b o t h u = px (chan x) (wrow w o) (b, t, h, u) := by
  unfold pixelOf px
  rw [Fin.sum_univ_three]
  rfl

theorem meanOf_px (o : Fin 4) : meanOf x w o = mean2 (chan x) (wrow w o) := by
  unfold meanOf mean2
  simp only [Fintype.sum_prod_type, pixelOf_px]

theorem devOf_px (o : Fin 4) : devOf x w o = dev2 (chan x) (wrow w o) := by
  unfold devOf dev2
  simp only [Fintype.sum_prod_type, pixelOf_px, meanOf_px]

/-- A normalised pixel is the same by the one-pass statistics and by the two-pass ones. -/
theorem act_same (ga be : S4.Idx → EReal) : act x w (fun k => mean3 (wrow w k) (moment x)) (fun k => dev3 (wrow w k) (moment x)) ga be
    = act x w (meanOf x w) (devOf x w) ga be := by
  funext b o t h u
  unfold act nrm
  rw [meanOf_px, devOf_px, moment_chan]
  dsimp only
  rcases agree_or (chan x) (wrow w o) with ⟨hm, hd⟩ | ⟨h3, h2⟩
  · rw [hm, hd]
  · rw [div_inf h3, div_inf h2]

end Cert.Stats
-- ==== Proof.RefGather.lean ====
/- The reference's two gathers, read at an index where the index array holds a frame's number, and its sums over several axes of a rank-5
   array as sums along each axis. -/
module

public import proofs.«01_k».proof.ReferenceIdeal
public import Idealize.ShloMosaic.Lib.Pointwise

@[expose] public section

set_option maxRecDepth 8192

noncomputable section

namespace Cert.ReferenceIdeal.RefGather

open Cert.ReferenceIdeal
open Idealize.ShloMosaic Idealize.ShloMosaic.TcCoe

variable [Facts]

/-- A frame's number, read signed and clamped below 64, is itself. -/
theorem clamped {v : BitVec 32} {f : Fin 64} (h : v = BitVec.ofNat 32 f.val) : min v.toInt.toNat 63 + 0 + 0 = f.val := by
  subst h; revert f; decide

/-- Gathered frames: place `n` of batch `b` holds the frame the index array names there. -/
theorem frames {α : Type} (x : S4x4x64x224x224.Idx → α) (idx : IVec S4x8x1 32) (b o : Fin 4) (n : Fin 8) (h u : Fin 224) (f : Fin 64)
    (hf : idx (Idealize.ShloMosaic.ix3 b n 0) = BitVec.ofNat 32 f.val) :
    Host.gather gather_S4x4x64x224x224_S4x8x1_S4x4x8x224x224_134_2_0_0_2_2_141224224 x idx (ix5 b o n h u) = x (ix5 b o f h u) := by
  refine congrArg x (funext fun (i : Fin 5) => Fin.ext ?_)
  match i with
  | 0 => show 0 + b.val + 0 = b.val; omega
  | 1 => show 0 + 0 + o.val = o.val; omega
  | 2 =>
    refine clamped ((congrArg idx (funext fun (k : Fin 3) => ?_)).trans hf)
    match k with
    | 0 | 1 | 2 => rfl
  | 3 => show 0 + 0 + h.val = h.val; omega
  | 4 => show 0 + 0 + u.val = u.val; omega

/-- Gathered weights: place `n` of batch `b` holds the weight of the frame the index array names there. -/
theorem taken {α : Type} (x : S4x64.Idx → α) (idx : IVec S4x8x1 32) (b : Fin 4) (n : Fin 8) (f : Fin 64)
    (hf : idx (Idealize.ShloMosaic.ix3 b n 0) = BitVec.ofNat 32 f.val) :
    Host.gather gather_S4x64_S4x8x1_S4x8_n_1_0_0_1_2_11 x idx (ix2 b n) = x (ix2 b f) := by
  refine congrArg x (funext fun (i : Fin 2) => Fin.ext ?_)
  match i with
  | 0 => show 0 + b.val + 0 = b.val; omega
  | 1 =>
    refine clamped ((congrArg idx (funext fun (k : Fin 3) => ?_)).trans hf)
    match k with
    | 0 | 1 | 2 => rfl

/-- The sum over every axis but the channels', at a channel. -/
theorem sum_channel (r : S4x4x64x224x224.ReducesTo [0, 2, 3, 4] S4) (v : S4x4x64x224x224.Idx → EReal) (o : Fin 4) :
    Ideal.hostReduceAdd r v 0 (ix1 o) = ∑ b : Fin 4, ∑ t : Fin 64, ∑ h : Fin 224, ∑ u : Fin 224, v (ix5 b o t h u) := by
  refine (zero_add _).trans ((Finset.sum_filter_eq_sum_of_fiber _ (fun k : Fin 4 × Fin 64 × Fin 224 × Fin 224 => (ix5 k.1 o k.2.1 k.2.2.1 k.2.2.2 : S4x4x64x224x224.Idx))
    (fun _ _ e => Prod.ext (congrFun e 0) (Prod.ext (congrFun e 2) (Prod.ext (congrFun e 3) (congrFun e 4)))) (fun i => ⟨fun e => ?_, ?_⟩) v).trans ?_)
  · refine ⟨(i 0, i 2, i 3, i 4), funext fun (a : Fin 5) => ?_⟩
    match a with
    | 0 | 2 | 3 | 4 => rfl
    | 1 => exact Fin.ext (congrArg Fin.val (congrFun e 0)).symm
  · rintro ⟨k, rfl⟩
    exact funext fun (a : Fin 1) => match a with | 0 => rfl
  · simp only [Fintype.sum_prod_type]

/-- The sum over the channels and a frame's pixels, at a frame. -/
theorem sum_frame (r : S4x4x64x224x224.ReducesTo [1, 3, 4] S4x64) (v : S4x4x64x224x224.Idx → EReal) (b : Fin 4) (t : Fin 64) :
    Ideal.hostReduceAdd r v 0 (ix2 b t) = ∑ o : Fin 4, ∑ h : Fin 224, ∑ u : Fin 224, v (ix5 b o t h u) := by
  refine (zero_add _).trans ((Finset.sum_filter_eq_sum_of_fiber _ (fun k : Fin 4 × Fin 224 × Fin 224 => (ix5 b k.1 t k.2.1 k.2.2 : S4x4x64x224x224.Idx))
    (fun _ _ e => Prod.ext (congrFun e 1) (Prod.ext (congrFun e 3) (congrFun e 4))) (fun i => ⟨fun e => ?_, ?_⟩) v).trans ?_)
  · refine ⟨(i 1, i 3, i 4), funext fun (a : Fin 5) => ?_⟩
    match a with
    | 1 | 3 | 4 => rfl
    | 0 => exact Fin.ext (congrArg Fin.val (congrFun e 0)).symm
    | 2 => exact Fin.ext (congrArg Fin.val (congrFun e 1)).symm
  · rintro ⟨k, rfl⟩
    exact funext fun (a : Fin 2) => match a with | 0 => rfl | 1 => rfl
  · simp only [Fintype.sum_prod_type]

end Cert.ReferenceIdeal.RefGather
-- ==== Proof.RefVal.lean ====
/- The reference's named values, read at indices: the embedded pixels, their statistics, the normalised pixels and the frames' scores. -/
module

public import proofs.«01_k».proof.Proof.Gen.ReferenceIdeal.Run
public import proofs.«01_k».proof.Proof.Stats
public import proofs.«01_k».proof.Proof.RefGather

@[expose] public section

set_option maxRecDepth 8192

noncomputable section

namespace Cert.ReferenceIdeal.RefVal

open Cert.ReferenceIdeal Cert.ReferenceIdeal.Value Cert.ReferenceIdeal.RefGather Cert.Spec Cert.Stats
open Idealize.ShloMosaic Idealize.ShloMosaic.TcCoe

variable (V : Valuation τ sig (Elt Ideal))

/-! ## The arguments -/

abbrev x : S4x3x64x224x224.Idx → EReal := V main_arg0
abbrev w : S4x3.Idx → EReal := V main_arg1
abbrev ga : S4.Idx → EReal := V main_arg2
abbrev be : S4.Idx → EReal := V main_arg3
abbrev w1 : S8x1.Idx → EReal := V main_arg4
abbrev b1 : S8.Idx → EReal := V main_arg5
abbrev w2 : S1x8.Idx → EReal := V main_arg6
abbrev b2 : S1.Idx → EReal := V main_arg7

/-- The channels' means and standard deviations. -/
def mu (o : Fin 4) : EReal := meanOf (x V) (w V) o
def sd (o : Fin 4) : EReal := devOf (x V) (w V) o
/-- The frames' scores. -/
def sco (b : Fin 4) (t : Fin 64) : EReal := scores (x V) (w V) (mu V) (sd V) (ga V) (be V) (w1 V) (b1 V) (w2 V) (b2 V) b t

/-! ## The values -/

theorem embedded (b o : Fin 4) (t : Fin 64) (h u : Fin 224) :
    @Eq EReal ((res_main_v1 V : S4x4x64x224x224.Idx → EReal) (ix5 b o t h u)) (pixelOf (x V) (w V) b o t h u) := by
  pointwise [res_main_v1]
  rfl

/-- A sum over all pixels of a channel of the embedded frames. -/
theorem total (r : S4x4x64x224x224.ReducesTo [0, 2, 3, 4] S4) (o : Fin 4) :
    @Eq EReal (Ideal.div (Ideal.hostReduceAdd r (res_main_v1 V : S4x4x64x224x224.Idx → EReal) 0 (ix1 o)) cnt) (mu V o) := by
  rw [sum_channel]
  simp only [embedded]
  rfl

theorem centred (b o : Fin 4) (t : Fin 64) (h u : Fin 224) :
    @Eq EReal ((res_main_call0_v5 V : S4x4x64x224x224.Idx → EReal) (ix5 b o t h u)) (pixelOf (x V) (w V) b o t h u - mu V o) := by
  pointwise [res_main_call0_v5]
  exact congrArg₂ (fun a b : EReal => a - b) (embedded V b o t h u) (total V _ o)

theorem guard : cnt - (FloatOps.sitofp FTy.f32 0#32 : Ideal .f32) = cnt := by
  have : (FloatOps.sitofp FTy.f32 0#32 : Ideal .f32) = (0 : EReal) := by
    show (((0#32 : BitVec 32).toInt : ℝ) : EReal) = 0
    simp
  rw [this, sub_zero]

theorem cnt_pos : (0 : EReal) < cnt := by
  rw [cnt_eq]
  exact EReal.coe_pos.mpr (by norm_num)

/-- The squared distances' mean, plus the guard, under the root. -/
theorem spread (r : S4x4x64x224x224.ReducesTo [0, 2, 3, 4] S4) (o : Fin 4) (y : EReal) :
    @Eq EReal (Ideal.sqrt ((if (0 : EReal) < cnt - (FloatOps.sitofp FTy.f32 0#32 : Ideal .f32) then
      Ideal.div (Ideal.hostReduceAdd r (mulf (res_main_call0_v5 V) (res_main_call0_v5 V) : S4x4x64x224x224.Idx → EReal) 0 (ix1 o))
        (cnt - (FloatOps.sitofp FTy.f32 0#32 : Ideal .f32)) else y) + eps)) (sd V o) := by
  rw [guard, if_pos cnt_pos, sum_channel]
  unfold sd devOf
  refine congrArg (fun s : EReal => Ideal.sqrt (Ideal.div s cnt + eps)) ?_
  refine Finset.sum_congr rfl fun b _ => Finset.sum_congr rfl fun t _ => Finset.sum_congr rfl fun h _ => Finset.sum_congr rfl fun u _ => ?_
  exact congrArg (fun s : EReal => s * s) (centred V b o t h u)

/-- A normalised pixel. -/
theorem normalised (b o : Fin 4) (t : Fin 64) (h u : Fin 224) :
    @Eq EReal ((res_main_v20 V : S4x4x64x224x224.Idx → EReal) (ix5 b o t h u)) (act (x V) (w V) (mu V) (sd V) (ga V) (be V) b o t h u) := by
  pointwise [res_main_v20, res_main_call0_v8]
  have e : pixelOf (x V) (w V) b o t h u = w V (ix2 o 0) * x V (ix5 b 0 t h u) + w V (ix2 o 1) * x V (ix5 b 1 t h u) + w V (ix2 o 2) * x V (ix5 b 2 t h u) := by
    unfold pixelOf
    rw [Fin.sum_univ_three, mul_comm (w V (ix2 o 0)), mul_comm (w V (ix2 o 1)), mul_comm (w V (ix2 o 2))]
  unfold act nrm
  rw [← e]
  refine congrArg₂ (fun p q : EReal => max (Ideal.div p q * ga V (ix1 o) + be V (ix1 o)) 0) ?_ (spread V _ o _)
  exact congrArg₂ (fun a b : EReal => a - b) (embedded V b o t h u) (total V _ o)

/-- A frame's pooled value. -/
theorem pooled (r : S4x4x64x224x224.ReducesTo [1, 3, 4] S4x64) (b : Fin 4) (t : Fin 64) :
    @Eq EReal (Ideal.div (Ideal.hostReduceAdd r (res_main_v20 V : S4x4x64x224x224.Idx → EReal) 0 (ix2 b t)) cntF)
      (Spec.pool (x V) (w V) (mu V) (sd V) (ga V) (be V) b t) := by
  rw [sum_frame]
  unfold Spec.pool
  simp only [normalised, Finset.sum_add_distrib, Fin.sum_univ_four]

/-- A frame's score. -/
theorem scored (b : Fin 4) (t : Fin 64) : @Eq EReal ((res_main_v36 V : S4x64.Idx → EReal) (ix2 b t)) (sco V b t) := by
  pointwise [res_main_v36]
  unfold sco scores score
  rw [← pooled V Gen.reducesTo_S4x4x64x224x224_S4x64_d1_3_4]
  simp only [Finset.univ_unique, Finset.sum_singleton]
  rfl

/-- A frame's weight. -/
theorem weighed (b : Fin 4) (t : Fin 64) : @Eq EReal ((res_main_v42 V : S4x64.Idx → EReal) (ix2 b t)) (wgt (sco V b t)) := by
  pointwise [res_main_v42]
  exact congrArg wgt (scored V b t)

end Cert.ReferenceIdeal.RefVal
-- ==== Proof.RefRes.lean ====
/- The reference's first result, read at an index: the frames its two top-k calls name, each times its weight. -/
module

public import proofs.«01_k».proof.Proof.RefVal
public import Idealize.ShloMosaic.Lib.ReduceAll
public import Idealize.ShloMosaic.Lib.Pipeline.Value

@[expose] public section

set_option maxRecDepth 8192

noncomputable section

namespace Cert.ReferenceIdeal.RefRes

open Cert.ReferenceIdeal Cert.ReferenceIdeal.Gen Cert.ReferenceIdeal.Value Cert.ReferenceIdeal.RefGather Cert.ReferenceIdeal.RefVal Cert.Spec Cert.Rank
open Idealize.ShloMosaic Idealize.ShloMosaic.TcCoe

/-! ## The two top-k calls -/

/-- A place below 8, among 64. -/
abbrev up (n : Fin 8) : Fin 64 := ⟨n.val, by omega⟩

theorem gt_iff (a b : EReal) (d : Decidable (b < a)) : ((FloatOps.cmpfTotal (F := Ideal) (φ := .f32) .gt a b) == 1#1) = @decide (b < a) d := by
  rw [Ideal.cmpfTotal_def]
  unfold Ideal.cmp CmpDirection.ordered
  by_cases h : b < a <;> simp [h]

/-- The places along the second axis, as a top-k call carries them. -/
abbrev along1 : IVec S4x64 32 := fun i => if hd : 1 < S4x64.rank then iotaInDim S4x64 32 ⟨1, hd⟩ i else 0#32

theorem along1_at (i : S4x64.Idx) : along1 i = BitVec.ofNat 32 (i (1 : Fin 2)).val := rfl

/-- A sort of two operands along the second axis, its second result. -/
theorem sort_snd {α β : Type} (cmp : α × β → α × β → BitVec 1) (s : S4x64.Idx → α) (y : S4x64.Idx → β) (j : S4x64.Idx) :
    (Host.sort2 S4x64 1 cmp s y).2 j = y (j.along (1 : Fin 2) (sortedFrom (n := 64)
      (fun k k' => cmp (s (j.along (1 : Fin 2) k), y (j.along (1 : Fin 2) k)) (s (j.along (1 : Fin 2) k'), y (j.along (1 : Fin 2) k')) == 1#1) (j (1 : Fin 2)))) := by
  unfold Host.sort2
  rw [dif_pos (by decide)]
  rfl

theorem along_at (b : Fin 4) (t k : Fin 64) : Shape.Idx.along (s := S4x64) (ix2 b t) (1 : Fin 2) k = ix2 b k := by
  funext (i : Fin 2)
  match i with
  | 0 | 1 => rfl

/-- The sort's second result: the place the stable sort puts at a position. -/
theorem sorted (s : Vec Ideal S4x64 .f32) (b : Fin 4) (t : Fin 64) :
    (Host.sort2 S4x64 1 (fun l r => FloatOps.cmpfTotal (F := Ideal) (φ := .f32) .gt l.1 r.1) s along1).2 (ix2 b t)
      = BitVec.ofNat 32 (sel (fun k => (s (ix2 b k) : EReal)) t).val := by
  have order : (fun k k' : Fin 64 => FloatOps.cmpfTotal (F := Ideal) (φ := .f32) .gt (s (Shape.Idx.along (s := S4x64) (ix2 b t) (1 : Fin 2) k))
      (s (Shape.Idx.along (s := S4x64) (ix2 b t) (1 : Fin 2) k')) == 1#1) = fun k k' => decide ((s (ix2 b k') : EReal) < s (ix2 b k)) := by
    funext k k'
    rw [along_at, along_at]
    exact gt_iff _ _ _
  refine (sort_snd _ _ _ _).trans ?_
  rw [along_at, along1_at]
  refine congrArg (fun k : Fin 64 => BitVec.ofNat 32 k.val) ?_
  exact congrArg (fun p : Fin 64 → Fin 64 → Bool => sortedFrom p t) order

/-- The frames a top-k call names are those a stable sort by descending score puts first. -/
theorem topk (s : Vec Ideal S4x64 .f32) (hs : S4x64.Slices (fun _ => 0) S4x8) (b : Fin 4) (n : Fin 8) :
    (Host.topK S4x8 1 (FloatOps.cmpfTotal (F := Ideal) (φ := .f32) .gt) s hs).2 (ix2 b n) = BitVec.ofNat 32 (sel (fun t => (s (ix2 b t) : EReal)) (up n)).val := by
  refine Eq.trans (congrArg (Host.sort2 S4x64 1 (fun l r => FloatOps.cmpfTotal (F := Ideal) (φ := .f32) .gt l.1 r.1) s along1).2 (funext fun (i : Fin 2) => ?_)) (sorted s b (up n))
  match i with
  | 0 | 1 => exact Fin.ext (Nat.zero_add _)

variable (V : Valuation τ sig (Elt Ideal))

/-- The best frames, -/
theorem best (b : Fin 4) (n : Fin 8) : (res_main_indices V : IVec S4x8 32) (ix2 b n) = BitVec.ofNat 32 (sel (sco V b) (up n)).val := by
  refine (topk (res_main_v36 V) _ b n).trans ?_
  rw [show (fun t => ((res_main_v36 V : S4x64.Idx → EReal) (ix2 b t) : EReal)) = sco V b from funext fun t => scored V b t]

/-- and the worst. -/
theorem worst (b : Fin 4) (n : Fin 8) : (res_main_indices_7 V : IVec S4x8 32) (ix2 b n) = BitVec.ofNat 32 (sel (fun t => -sco V b t) (up n)).val := by
  refine (topk (res_main_v43 V) _ b n).trans ?_
  rw [show (fun t => ((res_main_v43 V : S4x64.Idx → EReal) (ix2 b t) : EReal)) = fun t => -sco V b t from
    funext fun t => congrArg (fun a : EReal => -a) (scored V b t)]

/-! ## Half of the result, from one call's frames -/

/-- The frames' numbers, a negative one counted from the end. -/
def wrapped (idx : IVec S4x8 32) : IVec S4x8 32 :=
  select (cmpi .slt idx (broadcastInDim S4x8 ![] bcast_S_S4x8 (constantI S_ 32 0#32))) (addi idx (broadcastInDim S4x8 ![] bcast_S_S4x8 (constantI S_ 32 64#32))) idx

/-- The same, one more axis to them. -/
def places (idx : IVec S4x8 32) : IVec S4x8x1 32 := shapeCast _ (wrapped idx) shapeCasts_S4x8_S4x8x1

/-- The frames `idx` names, each times its weight. -/
def half (idx : IVec S4x8 32) : Vec Ideal S4x4x8x224x224 .f32 :=
  (mulf (Host.gather gather_S4x4x64x224x224_S4x8x1_S4x4x8x224x224_134_2_0_0_2_2_141224224 (res_main_v20 V) (broadcastInDim S4x8x1 ![0, 1] bcast_S4x8_S4x8x1_0_1 (wrapped idx))) (broadcastInDim S4x4x8x224x224 ![0, 1, 2, 3, 4] bcast_S4x1x8x1x1_S4x4x8x224x224_0_1_2_3_4 (broadcastInDim S4x1x8x1x1 ![0, 2] bcast_S4x8_S4x1x8x1x1_0_2 (select (Host.reduce IntOp.andi (andi (cmpi .sge (places idx) (broadcastInDim S4x8x1 ![] bcast_S_S4x8x1 (constantI S_ 32 0#32))) (cmpi .sle (places idx) (broadcastInDim S4x8x1 ![0, 1, 2] bcast_S1x1x1_S4x8x1_0_1_2 (broadcastInDim S1x1x1 ![2] bcast_S1_S1x1x1_2 (constantI S1 32 63#32))))) (constantI S_ 1 1#1) reducesTo_S4x8x1_S4x8_d2 h_S_) (Host.gather gather_S4x64_S4x8x1_S4x8_n_1_0_0_1_2_11 (res_main_v42 V) (places idx)) (broadcastInDim S4x8 ![] bcast_S_S4x8 (constant S_ .f32 0x7FC00000#32))))))

/-- The reference's first result. -/
def whole : Vec Ideal S4x4x16x224x224 .f32 :=
  concatenate S4x4x16x224x224 2 [⟨S4x4x8x224x224, half V (res_main_indices V)⟩, ⟨S4x4x8x224x224, half V (res_main_indices_7 V)⟩] concatenates_S4x4x8x224x224_S4x4x8x224x224_S4x4x16x224x224_d2

theorem nonneg (f : Fin 64) : IntOp.cmpi .slt (BitVec.ofNat 32 f.val) 0#32 = 0#1 ∧ IntOp.cmpi .sge (BitVec.ofNat 32 f.val) 0#32 = 1#1 ∧
    IntOp.cmpi .sle (BitVec.ofNat 32 f.val) 63#32 = 1#1 := by
  revert f; decide +kernel

variable (idx : IVec S4x8 32) (f : Fin 4 → Fin 8 → Fin 64) (hf : ∀ b n, idx (ix2 b n) = BitVec.ofNat 32 (f b n).val)

include hf in
theorem wrapped_at (b : Fin 4) (n : Fin 8) : wrapped idx (ix2 b n) = BitVec.ofNat 32 (f b n).val := by
  pointwise [wrapped]
  rw [hf, (nonneg _).1]
  rfl

include hf in
theorem places_at (b : Fin 4) (n : Fin 8) (i : Fin 1) : places idx (Idealize.ShloMosaic.ix3 b n i) = BitVec.ofNat 32 (f b n).val := by
  pointwise [places]
  exact wrapped_at idx f hf b n

include hf in
/-- The weights: every number is in range, so none is the filler. -/
theorem weights_at (b : Fin 4) (n : Fin 8) (r : S4x8x1.ReducesTo [2] S4x8) (hp : 0 < S_.numel) (y : Vec Ideal S4x8 .f32) :
    @Eq EReal (select (Host.reduce IntOp.andi (andi (cmpi .sge (places idx) (broadcastInDim S4x8x1 ![] bcast_S_S4x8x1 (constantI S_ 32 0#32)))
      (cmpi .sle (places idx) (broadcastInDim S4x8x1 ![0, 1, 2] bcast_S1x1x1_S4x8x1_0_1_2 (broadcastInDim S1x1x1 ![2] bcast_S1_S1x1x1_2 (constantI S1 32 63#32)))))
      (constantI S_ 1 1#1) r hp) (Host.gather gather_S4x64_S4x8x1_S4x8_n_1_0_0_1_2_11 (res_main_v42 V) (places idx)) y (ix2 b n)) (wgt (sco V b (f b n))) := by
  have h1 := Host.reduce_andi_one (andi (cmpi .sge (places idx) (broadcastInDim S4x8x1 ![] bcast_S_S4x8x1 (constantI S_ 32 0#32)))
      (cmpi .sle (places idx) (broadcastInDim S4x8x1 ![0, 1, 2] bcast_S1x1x1_S4x8x1_0_1_2 (broadcastInDim S1x1x1 ![2] bcast_S1_S1x1x1_2 (constantI S1 32 63#32)))))
      (constantI S_ 1 1#1) r hp (ix2 b n) rfl fun i => by
    obtain ⟨p, q, k, rfl⟩ : ∃ (p : Fin 4) (q : Fin 8) (k : Fin 1), i = Idealize.ShloMosaic.ix3 p q k := ⟨i 0, i 1, i 2, Idealize.ShloMosaic.eq_ix3 i⟩
    show IntOp.andi (IntOp.cmpi .sge (places idx (Idealize.ShloMosaic.ix3 p q k)) 0#32) (IntOp.cmpi .sle (places idx (Idealize.ShloMosaic.ix3 p q k)) 63#32) = 1#1
    rw [places_at idx f hf, (nonneg _).2.1, (nonneg _).2.2]
    rfl
  show Scalar.select _ _ _ = _
  rw [h1]
  exact (taken (res_main_v42 V) (places idx) b n (f b n) (places_at idx f hf b n 0)).trans (weighed V b (f b n))

/-- One number for each chosen frame, spread over the frame's channels and pixels. -/
theorem spread5 (v : Vec Ideal S4x8 .f32) (b o : Fin 4) (n : Fin 8) (h u : Fin 224) :
    broadcastInDim S4x4x8x224x224 ![0, 1, 2, 3, 4] bcast_S4x1x8x1x1_S4x4x8x224x224_0_1_2_3_4 (broadcastInDim S4x1x8x1x1 ![0, 2] bcast_S4x8_S4x1x8x1x1_0_2 v)
      (ix5 b o n h u) = v (ix2 b n) := by
  pointwise

include hf in
theorem half_at (b o : Fin 4) (n : Fin 8) (h u : Fin 224) :
    @Eq EReal (half V idx (ix5 b o n h u)) (act (x V) (w V) (mu V) (sd V) (ga V) (be V) b o (f b n) h u * wgt (sco V b (f b n))) := by
  refine congrArg₂ (fun p q : EReal => p * q) ?_ ?_
  · refine (frames (res_main_v20 V) _ b o n h u (f b n) ?_).trans (normalised V b o (f b n) h u)
    pointwise
    exact wrapped_at idx f hf b n
  · exact (spread5 _ b o n h u).trans (weights_at V idx f hf b n reducesTo_S4x8x1_S4x8_d2 h_S_ _)

/-- The first result, read at an index. -/
theorem whole_at (b o : Fin 4) (n : Fin 16) (h u : Fin 224) :
    @Eq EReal (whole V (ix5 b o n h u)) (result (x V) (w V) (mu V) (sd V) (ga V) (be V) (w1 V) (b1 V) (w2 V) (b2 V) b o n h u) := by
  unfold result chosen pick
  by_cases hn : n.val < 8
  · rw [if_pos hn]
    refine (concatenate_pair_apply_left (t := S4x4x16x224x224) (s₁ := S4x4x8x224x224) (s₂ := S4x4x8x224x224) (2 : Fin 5) _ _ _ (ix5 b o n h u) rfl (ix5 b o (⟨n.val, hn⟩ : Fin 8) h u) fun (i : Fin 5) => ?_).trans
      (half_at V _ (fun b n => sel (sco V b) (up n)) (best V) b o ⟨n.val, hn⟩ h u)
    match i with
    | 0 | 1 | 2 | 3 | 4 => rfl
  · rw [if_neg hn]
    refine (concatenate_pair_apply_right (t := S4x4x16x224x224) (s₁ := S4x4x8x224x224) (s₂ := S4x4x8x224x224) (2 : Fin 5) _ _ _ (ix5 b o n h u) rfl rfl (ix5 b o (⟨n.val - 8, by omega⟩ : Fin 8) h u) (fun (i : Fin 5) hi => ?_) ?_).trans
      (half_at V _ (fun b n => sel (fun t => -sco V b t) (up n)) (worst V) b o ⟨n.val - 8, by omega⟩ h u)
    · match i with
      | 0 | 1 | 3 | 4 => rfl
      | 2 => exact absurd rfl hi
    · exact Nat.sub_add_cancel (by omega)

end Cert.ReferenceIdeal.RefRes
-- ==== Proof.Same.lean ====
/- Both programs' results are the same function of the arrays. -/
module

public import proofs.«01_k».proof.Proof.KernelVal
public import proofs.«01_k».proof.Proof.RefRes

@[expose] public section

set_option maxRecDepth 8192

noncomputable section

namespace Cert.Same

open Idealize.ShloMosaic Idealize.ShloMosaic.TcCoe Cert.Spec Cert.Stats

/-! ## The statistics reach the results through the normalised pixels alone -/

section congr

variable {x : KernelIdeal.S4x3x64x224x224.Idx → EReal} {w : KernelIdeal.S4x3.Idx → EReal} {MU SD MU' SD' : Fin 4 → EReal} {ga be : KernelIdeal.S4.Idx → EReal}
  (e : act x w MU SD ga be = act x w MU' SD' ga be)
  (w1 : KernelIdeal.S8x1.Idx → EReal) (b1 : KernelIdeal.S8.Idx → EReal) (w2 : KernelIdeal.S1x8.Idx → EReal) (b2 : KernelIdeal.S1.Idx → EReal)

include e in
theorem scores_congr : scores x w MU SD ga be w1 b1 w2 b2 = scores x w MU' SD' ga be w1 b1 w2 b2 := by
  funext b t
  unfold scores Spec.pool
  rw [e]

include e in
theorem result_congr : result x w MU SD ga be w1 b1 w2 b2 = result x w MU' SD' ga be w1 b1 w2 b2 := by
  funext b o n h u
  unfold result chosen
  rw [scores_congr e, e]

end congr

/-! ## The results -/

section

variable (m : (ℓ : Loc KernelIdeal.nD KernelIdeal.τ KernelIdeal.sig) → Buf (Elt Ideal) ℓ) (c : Dev KernelIdeal.nD)
  (L : Valuation ReferenceIdeal.τ ReferenceIdeal.sig (Elt Ideal))
  (h0 : L ReferenceIdeal.main_arg0 = KernelIdeal.KernelVal.ax m c) (h1 : L ReferenceIdeal.main_arg1 = KernelIdeal.KernelVal.aw m c)
  (h2 : L ReferenceIdeal.main_arg2 = KernelIdeal.KernelVal.aga m c) (h3 : L ReferenceIdeal.main_arg3 = KernelIdeal.KernelVal.abe m c)
  (h4 : L ReferenceIdeal.main_arg4 = KernelIdeal.KernelVal.aw1 m c) (h5 : L ReferenceIdeal.main_arg5 = KernelIdeal.KernelVal.ab1 m c)
  (h6 : L ReferenceIdeal.main_arg6 = KernelIdeal.KernelVal.aw2 m c) (h7 : L ReferenceIdeal.main_arg7 = KernelIdeal.KernelVal.ab2 m c)

/-- The kernel's normalised pixels are the reference's. -/
theorem pixels_same : act (KernelIdeal.KernelVal.ax m c) (KernelIdeal.KernelVal.aw m c) (KernelIdeal.KernelVal.mu m c) (KernelIdeal.KernelVal.sd m c)
      (KernelIdeal.KernelVal.aga m c) (KernelIdeal.KernelVal.abe m c)
    = act (KernelIdeal.KernelVal.ax m c) (KernelIdeal.KernelVal.aw m c) (meanOf (KernelIdeal.KernelVal.ax m c) (KernelIdeal.KernelVal.aw m c))
      (devOf (KernelIdeal.KernelVal.ax m c) (KernelIdeal.KernelVal.aw m c)) (KernelIdeal.KernelVal.aga m c) (KernelIdeal.KernelVal.abe m c) :=
  act_same _ _ _ _

/-- The reference's statistics, of the kernel's arrays. -/
theorem mu_eq (x' : KernelIdeal.S4x3x64x224x224.Idx → EReal) (w' : KernelIdeal.S4x3.Idx → EReal) (e0 : L ReferenceIdeal.main_arg0 = x') (e1 : L ReferenceIdeal.main_arg1 = w') :
    ReferenceIdeal.RefVal.mu L = meanOf x' w' ∧ ReferenceIdeal.RefVal.sd L = devOf x' w' := by
  subst e0 e1
  exact ⟨rfl, rfl⟩

include h0 h1 h2 h3 h4 h5 h6 h7 in
/-- The scores agree, -/
theorem scores_same : @Eq (KernelIdeal.S4x64.Idx → EReal) (ReferenceIdeal.Value.res_main_v36 L)
    (KernelIdeal.Gen.V10 m (KernelIdeal.Calls.outs m) c KernelIdeal.main_v213_0) := by
  obtain ⟨hm, hs⟩ := mu_eq L _ _ h0 h1
  funext i
  obtain ⟨b, t, rfl⟩ : ∃ (b : Fin 4) (t : Fin 64), i = ix2 b t := ⟨i 0, i 1, eq_ix2 i⟩
  refine (ReferenceIdeal.RefVal.scored L b t).trans (Eq.trans ?_ (KernelIdeal.KernelVal.second m c b t).symm)
  unfold ReferenceIdeal.RefVal.sco ReferenceIdeal.RefVal.x ReferenceIdeal.RefVal.w ReferenceIdeal.RefVal.ga ReferenceIdeal.RefVal.be
    ReferenceIdeal.RefVal.w1 ReferenceIdeal.RefVal.b1 ReferenceIdeal.RefVal.w2 ReferenceIdeal.RefVal.b2
  rw [hm, hs, h0, h1, h2, h3, h4, h5, h6, h7, scores_congr (pixels_same m c)]

include h0 h1 h2 h3 h4 h5 h6 h7 in
/-- and so do the chosen frames. -/
theorem frames_same : @Eq (KernelIdeal.S4x4x16x224x224.Idx → EReal) (ReferenceIdeal.RefRes.whole L)
    (KernelIdeal.Gen.V10 m (KernelIdeal.Calls.outs m) c KernelIdeal.main_v216) := by
  obtain ⟨hm, hs⟩ := mu_eq L _ _ h0 h1
  funext i
  obtain ⟨b, o, n, h, u, rfl⟩ : ∃ (b o : Fin 4) (n : Fin 16) (h u : Fin 224), i = ix5 b o n h u := ⟨i 0, i 1, i 2, i 3, i 4, eq_ix5 i⟩
  refine (ReferenceIdeal.RefRes.whole_at L b o n h u).trans (Eq.trans ?_ (KernelIdeal.KernelVal.first m c b o n h u).symm)
  unfold ReferenceIdeal.RefVal.x ReferenceIdeal.RefVal.w ReferenceIdeal.RefVal.ga ReferenceIdeal.RefVal.be
    ReferenceIdeal.RefVal.w1 ReferenceIdeal.RefVal.b1 ReferenceIdeal.RefVal.w2 ReferenceIdeal.RefVal.b2
  rw [hm, hs, h0, h1, h2, h3, h4, h5, h6, h7, result_congr (pixels_same m c)]

end

end Cert.Same
-- ==== Proof.RefFrame.lean ====
/- The reference before idealization: the same program text, at any float values, so its facts are the idealized reference's. -/
module

public import proofs.«01_k».proof.Proof.Gen.ReferenceIdeal
public import proofs.«01_k».proof.Reference

@[expose] public section

set_option maxRecDepth 8192

noncomputable section

namespace Cert.Reference.RefFrame

open Idealize.ShloMosaic

/-- The facts the text states, from the idealized text's. -/
theorem facts₀ : Cert.Reference.Facts₀ := { Cert.ReferenceIdeal.Gen.facts₀ with }

theorem facts : Cert.Reference.Facts := { facts₀ with }

end Cert.Reference.RefFrame
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Run
public import proofs.«01_k».proof.Proof.Bits.Run
public import proofs.«01_k».proof.Proof.Same
public import proofs.«01_k».proof.Proof.RefFrame
public import Idealize.ShloMosaic.Adequacy
public import Idealize.ShloMosaic.Init

@[expose] public section

noncomputable section

namespace Cert.Proof

open Idealize.ShloMosaic Idealize.SL.Sem Cert.Kernel

/-- The kernel's frame, at any float values. -/
theorem frame_kernel : Cert.quiescent_Kernel (hKernel := Cert.Kernel.Gen.facts) := fun m g _ =>
  (θ_run _ _ _).mono (fun _ h => ⟨fun c => (h.1 c).2.2, h.2⟩) (Cert.Kernel.Calls.run_main m g)

/-- The idealized kernel's frame. -/
theorem frame_kernelIdeal : Cert.quiescent_KernelIdeal (hKernelIdeal := Cert.KernelIdeal.Gen.facts) := fun m g _ =>
  (θ_run _ _ _).mono (fun _ h => ⟨fun c => (h.1 c).2.2, h.2⟩) (Cert.KernelIdeal.Calls.run_main m g)

/-- The idealized reference's frame. -/
theorem frame_referenceIdeal : Cert.quiescent_ReferenceIdeal (hReferenceIdeal := Cert.ReferenceIdeal.Gen.facts) := fun m g _ =>
  (θ_run _ _ _).mono (fun r h => ⟨fun c => (h c).2.2, sem_eq_zero_of_no_sems (by decide) r.2⟩)
    (Cert.ReferenceIdeal.Value.run m g)

/-- The reference's frame before idealization: its text is the idealized reference's, whose run is at any float values. -/
theorem frame_reference : Cert.quiescent_Reference (hReference := Cert.Reference.RefFrame.facts) := fun m g _ =>
  (θ_run _ _ _).mono (fun r h => ⟨fun c => (h c).2.2, sem_eq_zero_of_no_sems (by decide) r.2⟩)
    (Cert.ReferenceIdeal.Value.run (F := Bits) m g)

/-- From equal arrays the two programs end with equal results. -/
theorem algebraic : Cert.algebraic_KernelIdeal_ReferenceIdeal (hKernelIdeal := Cert.KernelIdeal.Gen.facts)
    (hReferenceIdeal := Cert.ReferenceIdeal.Gen.facts) := fun m g m' g' _ ha => by
  refine ⟨fun c => Cert.KernelIdeal.Gen.V10 m (Cert.KernelIdeal.Calls.outs m) c (Proc.devRef .tc Cert.KernelIdeal.main_v216),
    fun c => Cert.KernelIdeal.Gen.V10 m (Cert.KernelIdeal.Calls.outs m) c (Proc.devRef .tc Cert.KernelIdeal.main_v213_0),
    (θ_run _ _ _).mono (fun _ h => h.1) (Cert.KernelIdeal.Calls.run_main m g),
    (θ_run _ _ _).mono (fun r h c => ?_) (Cert.ReferenceIdeal.Value.run m' g')⟩
  obtain ⟨h0, h1, h2, h3, h4, h5, h6, h7⟩ := ha c
  exact ⟨(h c).1.trans (Cert.Same.frames_same m c (StableHlo.launchContents m' c) h0 h1 h2 h3 h4 h5 h6 h7),
    (h c).2.1.trans (Cert.Same.scores_same m c (StableHlo.launchContents m' c) h0 h1 h2 h3 h4 h5 h6 h7), (h c).2.2⟩

theorem claim : Cert.Claim := ⟨Cert.Kernel.Gen.facts, Cert.KernelIdeal.Gen.facts, Cert.Reference.RefFrame.facts,
  Cert.ReferenceIdeal.Gen.facts, frame_kernel, frame_kernelIdeal, frame_reference, frame_referenceIdeal, trivial, trivial, algebraic⟩

end Cert.Proof

end
